-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![32768, 1024]⟩ ⟨2, ![65536, 1024]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x1024 : Shape := ⟨2, ![32768, 1024]⟩
abbrev S2x1024x1024 : Shape := ⟨3, ![2, 1024, 1024]⟩
abbrev S19 : Shape := ⟨1, ![19]⟩
abbrev S4 : Shape := ⟨1, ![4]⟩
abbrev S2 : Shape := ⟨1, ![2]⟩
abbrev S_ : Shape := ⟨0, ![]⟩
abbrev S1 : Shape := ⟨1, ![1]⟩
abbrev S1024x1024 : Shape := ⟨2, ![1024, 1024]⟩
abbrev S512x1024 : Shape := ⟨2, ![512, 1024]⟩
abbrev S256x1024 : Shape := ⟨2, ![256, 1024]⟩
abbrev S128x1024 : Shape := ⟨2, ![128, 1024]⟩
abbrev S1x1024x1024 : Shape := ⟨3, ![1, 1024, 1024]⟩
abbrev S1x512x1024 : Shape := ⟨3, ![1, 512, 1024]⟩
abbrev S1x256x1024 : Shape := ⟨3, ![1, 256, 1024]⟩
abbrev S1x128x1024 : Shape := ⟨3, ![1, 128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .local _ .vmem, ⟨0, _⟩ => ⟨S2x1024x1024, .f32⟩
  | .local _ .vmem, ⟨1, _⟩ => ⟨S2x1024x1024, .f32⟩
  | _, _ => ⟨S32768x1024, .f32⟩

abbrev bufScoped : (cs : CoreSpace) → Fin (nBuf (.core cs)) → Bool
  | .vmem, ⟨0, _⟩ => true
  | .vmem, ⟨1, _⟩ => true
  | _, _ => false

abbrev semScoped : Fin 2 → Bool
  | ⟨0, _⟩ => true
  | ⟨1, _⟩ => false
  | _ => false

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  (ofTc nBuf bufTy 2 82 bufScoped semScoped dmaSemScoped tileCredit tileCredit_eq_zero tileCredit_pos).withBarriers [(0, 1)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier0 : Sem sig := 1

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) (c0_i32_15 : BitVec 32) : Fin 2 → Nat :=
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c16384_i32_13 : BitVec 32 := 16384#32
  let v19 : BitVec 32 := Scalar.muli v18 c16384_i32_13
  let v21 : BitVec 32 := Scalar.addi v19 c0_i32_15
  let c0_i32_21 : BitVec 32 := 0#32
  ![v21.toNat, 0]
def k0_off2 (d0 : Dev nD) (c0_i32_14 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c16384_i32 : BitVec 32 := 16384#32
  let v17 : BitVec 32 := Scalar.muli v5 c16384_i32
  let v20 : BitVec 32 := Scalar.addi v17 c0_i32_14
  let c0_i32_22 : BitVec 32 := 0#32
  ![v20.toNat, 0]
def k0_dev3 (d0 : Dev nD) : Nat :=
  let c0_i32_19 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_18 : BitVec 32 := 2#32
  let v22 : BitVec 32 := Scalar.muli v6 c2_i32_18
  let v23 : BitVec 32 := Scalar.addi c0_i32_19 v22
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_20 : BitVec 32 := 1#32
  let v24 : BitVec 32 := Scalar.muli v5 c1_i32_20
  let v25 : BitVec 32 := Scalar.addi v23 v24
  v25.toNat
def k0_dev4 (d0 : Dev nD) : Nat :=
  let c0_i32_27 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_26 : BitVec 32 := 2#32
  let v34 : BitVec 32 := Scalar.muli v6 c2_i32_26
  let v35 : BitVec 32 := Scalar.addi c0_i32_27 v34
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_28 : BitVec 32 := 1#32
  let v36 : BitVec 32 := Scalar.muli v5 c1_i32_28
  let v37 : BitVec 32 := Scalar.addi v35 v36
  v37.toNat
def k0_dev5 (d0 : Dev nD) : Nat :=
  let c0_i32_35 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_34 : BitVec 32 := 2#32
  let v46 : BitVec 32 := Scalar.muli v6 c2_i32_34
  let v47 : BitVec 32 := Scalar.addi c0_i32_35 v46
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_36 : BitVec 32 := 1#32
  let v48 : BitVec 32 := Scalar.muli v5 c1_i32_36
  let v49 : BitVec 32 := Scalar.addi v47 v48
  v49.toNat
def k0_dev6 (d0 : Dev nD) : Nat :=
  let c0_i32_42 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_41 : BitVec 32 := 2#32
  let v58 : BitVec 32 := Scalar.muli v6 c2_i32_41
  let v59 : BitVec 32 := Scalar.addi c0_i32_42 v58
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_43 : BitVec 32 := 1#32
  let v60 : BitVec 32 := Scalar.muli v5 c1_i32_43
  let v61 : BitVec 32 := Scalar.addi v59 v60
  v61.toNat
def k0_dev7 (d0 : Dev nD) : Nat :=
  let c0_i32_49 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_48 : BitVec 32 := 2#32
  let v70 : BitVec 32 := Scalar.muli v6 c2_i32_48
  let v71 : BitVec 32 := Scalar.addi c0_i32_49 v70
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_50 : BitVec 32 := 1#32
  let v72 : BitVec 32 := Scalar.muli v5 c1_i32_50
  let v73 : BitVec 32 := Scalar.addi v71 v72
  v73.toNat
def k0_dev8 (d0 : Dev nD) : Nat :=
  let c0_i32_56 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_55 : BitVec 32 := 2#32
  let v82 : BitVec 32 := Scalar.muli v6 c2_i32_55
  let v83 : BitVec 32 := Scalar.addi c0_i32_56 v82
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_57 : BitVec 32 := 1#32
  let v84 : BitVec 32 := Scalar.muli v5 c1_i32_57
  let v85 : BitVec 32 := Scalar.addi v83 v84
  v85.toNat
def k0_dev9 (d0 : Dev nD) : Nat :=
  let c0_i32_63 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_62 : BitVec 32 := 2#32
  let v94 : BitVec 32 := Scalar.muli v6 c2_i32_62
  let v95 : BitVec 32 := Scalar.addi c0_i32_63 v94
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_64 : BitVec 32 := 1#32
  let v96 : BitVec 32 := Scalar.muli v5 c1_i32_64
  let v97 : BitVec 32 := Scalar.addi v95 v96
  v97.toNat
def k0_dev10 (d0 : Dev nD) : Nat :=
  let c0_i32_70 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_69 : BitVec 32 := 2#32
  let v106 : BitVec 32 := Scalar.muli v6 c2_i32_69
  let v107 : BitVec 32 := Scalar.addi c0_i32_70 v106
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_71 : BitVec 32 := 1#32
  let v108 : BitVec 32 := Scalar.muli v5 c1_i32_71
  let v109 : BitVec 32 := Scalar.addi v107 v108
  v109.toNat
def k0_dev11 (d0 : Dev nD) : Nat :=
  let c0_i32_77 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_76 : BitVec 32 := 2#32
  let v118 : BitVec 32 := Scalar.muli v6 c2_i32_76
  let v119 : BitVec 32 := Scalar.addi c0_i32_77 v118
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_78 : BitVec 32 := 1#32
  let v120 : BitVec 32 := Scalar.muli v5 c1_i32_78
  let v121 : BitVec 32 := Scalar.addi v119 v120
  v121.toNat
def k0_dev12 (d0 : Dev nD) : Nat :=
  let c0_i32_84 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_83 : BitVec 32 := 2#32
  let v130 : BitVec 32 := Scalar.muli v6 c2_i32_83
  let v131 : BitVec 32 := Scalar.addi c0_i32_84 v130
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_85 : BitVec 32 := 1#32
  let v132 : BitVec 32 := Scalar.muli v5 c1_i32_85
  let v133 : BitVec 32 := Scalar.addi v131 v132
  v133.toNat
def k0_dev13 (d0 : Dev nD) : Nat :=
  let c0_i32_91 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_90 : BitVec 32 := 2#32
  let v142 : BitVec 32 := Scalar.muli v6 c2_i32_90
  let v143 : BitVec 32 := Scalar.addi c0_i32_91 v142
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_92 : BitVec 32 := 1#32
  let v144 : BitVec 32 := Scalar.muli v5 c1_i32_92
  let v145 : BitVec 32 := Scalar.addi v143 v144
  v145.toNat
def k0_dev14 (d0 : Dev nD) : Nat :=
  let c0_i32_98 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_97 : BitVec 32 := 2#32
  let v154 : BitVec 32 := Scalar.muli v6 c2_i32_97
  let v155 : BitVec 32 := Scalar.addi c0_i32_98 v154
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_99 : BitVec 32 := 1#32
  let v156 : BitVec 32 := Scalar.muli v5 c1_i32_99
  let v157 : BitVec 32 := Scalar.addi v155 v156
  v157.toNat
def k0_dev15 (d0 : Dev nD) : Nat :=
  let c0_i32_105 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_104 : BitVec 32 := 2#32
  let v166 : BitVec 32 := Scalar.muli v6 c2_i32_104
  let v167 : BitVec 32 := Scalar.addi c0_i32_105 v166
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_106 : BitVec 32 := 1#32
  let v168 : BitVec 32 := Scalar.muli v5 c1_i32_106
  let v169 : BitVec 32 := Scalar.addi v167 v168
  v169.toNat
def k0_dev16 (d0 : Dev nD) : Nat :=
  let c0_i32_112 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_111 : BitVec 32 := 2#32
  let v178 : BitVec 32 := Scalar.muli v6 c2_i32_111
  let v179 : BitVec 32 := Scalar.addi c0_i32_112 v178
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_113 : BitVec 32 := 1#32
  let v180 : BitVec 32 := Scalar.muli v5 c1_i32_113
  let v181 : BitVec 32 := Scalar.addi v179 v180
  v181.toNat
def k0_dev17 (d0 : Dev nD) : Nat :=
  let c0_i32_119 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_118 : BitVec 32 := 2#32
  let v190 : BitVec 32 := Scalar.muli v6 c2_i32_118
  let v191 : BitVec 32 := Scalar.addi c0_i32_119 v190
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_120 : BitVec 32 := 1#32
  let v192 : BitVec 32 := Scalar.muli v5 c1_i32_120
  let v193 : BitVec 32 := Scalar.addi v191 v192
  v193.toNat
def k0_off3 (d0 : Dev nD) : Fin 2 → Nat :=
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c16384_i32_13 : BitVec 32 := 16384#32
  let v19 : BitVec 32 := Scalar.muli v18 c16384_i32_13
  let c15360_i32_123 : BitVec 32 := 15360#32
  let v201 : BitVec 32 := Scalar.addi v19 c15360_i32_123
  let c0_i32_128 : BitVec 32 := 0#32
  ![v201.toNat, 0]
def k0_off4 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c16384_i32 : BitVec 32 := 16384#32
  let v17 : BitVec 32 := Scalar.muli v5 c16384_i32
  let c15360_i32 : BitVec 32 := 15360#32
  let v200 : BitVec 32 := Scalar.addi v17 c15360_i32
  let c0_i32_129 : BitVec 32 := 0#32
  ![v200.toNat, 0]
def k0_dev18 (d0 : Dev nD) : Nat :=
  let c0_i32_126 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_125 : BitVec 32 := 2#32
  let v202 : BitVec 32 := Scalar.muli v6 c2_i32_125
  let v203 : BitVec 32 := Scalar.addi c0_i32_126 v202
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_127 : BitVec 32 := 1#32
  let v204 : BitVec 32 := Scalar.muli v5 c1_i32_127
  let v205 : BitVec 32 := Scalar.addi v203 v204
  v205.toNat
def k0_off5 (d0 : Dev nD) : Fin 2 → Nat :=
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c16384_i32_13 : BitVec 32 := 16384#32
  let v19 : BitVec 32 := Scalar.muli v18 c16384_i32_13
  let c15872_i32_130 : BitVec 32 := 15872#32
  let v213 : BitVec 32 := Scalar.addi v19 c15872_i32_130
  let c0_i32_135 : BitVec 32 := 0#32
  ![v213.toNat, 0]
def k0_off6 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c16384_i32 : BitVec 32 := 16384#32
  let v17 : BitVec 32 := Scalar.muli v5 c16384_i32
  let c15872_i32 : BitVec 32 := 15872#32
  let v212 : BitVec 32 := Scalar.addi v17 c15872_i32
  let c0_i32_136 : BitVec 32 := 0#32
  ![v212.toNat, 0]
def k0_dev19 (d0 : Dev nD) : Nat :=
  let c0_i32_133 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_132 : BitVec 32 := 2#32
  let v214 : BitVec 32 := Scalar.muli v6 c2_i32_132
  let v215 : BitVec 32 := Scalar.addi c0_i32_133 v214
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_134 : BitVec 32 := 1#32
  let v216 : BitVec 32 := Scalar.muli v5 c1_i32_134
  let v217 : BitVec 32 := Scalar.addi v215 v216
  v217.toNat
def k0_off7 (d0 : Dev nD) (c16128_i32_137 : BitVec 32) : Fin 2 → Nat :=
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c16384_i32_13 : BitVec 32 := 16384#32
  let v19 : BitVec 32 := Scalar.muli v18 c16384_i32_13
  let v225 : BitVec 32 := Scalar.addi v19 c16128_i32_137
  let c0_i32_142 : BitVec 32 := 0#32
  ![v225.toNat, 0]
def k0_off8 (d0 : Dev nD) (c16128_i32 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c16384_i32 : BitVec 32 := 16384#32
  let v17 : BitVec 32 := Scalar.muli v5 c16384_i32
  let v224 : BitVec 32 := Scalar.addi v17 c16128_i32
  let c0_i32_143 : BitVec 32 := 0#32
  ![v224.toNat, 0]
def k0_dev20 (d0 : Dev nD) : Nat :=
  let c0_i32_140 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_139 : BitVec 32 := 2#32
  let v226 : BitVec 32 := Scalar.muli v6 c2_i32_139
  let v227 : BitVec 32 := Scalar.addi c0_i32_140 v226
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_141 : BitVec 32 := 1#32
  let v228 : BitVec 32 := Scalar.muli v5 c1_i32_141
  let v229 : BitVec 32 := Scalar.addi v227 v228
  v229.toNat
def k0_dev21 (d0 : Dev nD) : Nat :=
  let c0_i32_147 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_146 : BitVec 32 := 2#32
  let v238 : BitVec 32 := Scalar.muli v6 c2_i32_146
  let v239 : BitVec 32 := Scalar.addi c0_i32_147 v238
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_148 : BitVec 32 := 1#32
  let v240 : BitVec 32 := Scalar.muli v5 c1_i32_148
  let v241 : BitVec 32 := Scalar.addi v239 v240
  v241.toNat
def k0_dev22 (d0 : Dev nD) : Nat :=
  let c0_i32_182 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_181 : BitVec 32 := 2#32
  let v278 : BitVec 32 := Scalar.muli v2 c2_i32_181
  let v279 : BitVec 32 := Scalar.addi c0_i32_182 v278
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_183 : BitVec 32 := 1#32
  let v280 : BitVec 32 := Scalar.muli v7 c1_i32_183
  let v281 : BitVec 32 := Scalar.addi v279 v280
  v281.toNat
def k0_dev23 (d0 : Dev nD) : Nat :=
  let c0_i32_205 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_204 : BitVec 32 := 2#32
  let v297 : BitVec 32 := Scalar.muli v2 c2_i32_204
  let v298 : BitVec 32 := Scalar.addi c0_i32_205 v297
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_206 : BitVec 32 := 1#32
  let v299 : BitVec 32 := Scalar.muli v7 c1_i32_206
  let v300 : BitVec 32 := Scalar.addi v298 v299
  v300.toNat
def k0_dev24 (d0 : Dev nD) : Nat :=
  let c0_i32_241 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_240 : BitVec 32 := 2#32
  let v338 : BitVec 32 := Scalar.muli v2 c2_i32_240
  let v339 : BitVec 32 := Scalar.addi c0_i32_241 v338
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_242 : BitVec 32 := 1#32
  let v340 : BitVec 32 := Scalar.muli v7 c1_i32_242
  let v341 : BitVec 32 := Scalar.addi v339 v340
  v341.toNat
def k0_dev25 (d0 : Dev nD) : Nat :=
  let c0_i32_264 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_263 : BitVec 32 := 2#32
  let v357 : BitVec 32 := Scalar.muli v2 c2_i32_263
  let v358 : BitVec 32 := Scalar.addi c0_i32_264 v357
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_265 : BitVec 32 := 1#32
  let v359 : BitVec 32 := Scalar.muli v7 c1_i32_265
  let v360 : BitVec 32 := Scalar.addi v358 v359
  v360.toNat
def k0_dev26 (d0 : Dev nD) : Nat :=
  let c0_i32_312 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_311 : BitVec 32 := 2#32
  let v408 : BitVec 32 := Scalar.muli v2 c2_i32_311
  let v409 : BitVec 32 := Scalar.addi c0_i32_312 v408
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_313 : BitVec 32 := 1#32
  let v410 : BitVec 32 := Scalar.muli v7 c1_i32_313
  let v411 : BitVec 32 := Scalar.addi v409 v410
  v411.toNat
def k0_dev27 (d0 : Dev nD) : Nat :=
  let c0_i32_336 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_335 : BitVec 32 := 2#32
  let v427 : BitVec 32 := Scalar.muli v2 c2_i32_335
  let v428 : BitVec 32 := Scalar.addi c0_i32_336 v427
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_337 : BitVec 32 := 1#32
  let v429 : BitVec 32 := Scalar.muli v7 c1_i32_337
  let v430 : BitVec 32 := Scalar.addi v428 v429
  v430.toNat
def k0_dev28 (d0 : Dev nD) : Nat :=
  let c0_i32_384 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_383 : BitVec 32 := 2#32
  let v478 : BitVec 32 := Scalar.muli v2 c2_i32_383
  let v479 : BitVec 32 := Scalar.addi c0_i32_384 v478
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_385 : BitVec 32 := 1#32
  let v480 : BitVec 32 := Scalar.muli v7 c1_i32_385
  let v481 : BitVec 32 := Scalar.addi v479 v480
  v481.toNat
def k0_dev29 (d0 : Dev nD) : Nat :=
  let c0_i32_408 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_407 : BitVec 32 := 2#32
  let v497 : BitVec 32 := Scalar.muli v2 c2_i32_407
  let v498 : BitVec 32 := Scalar.addi c0_i32_408 v497
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_409 : BitVec 32 := 1#32
  let v499 : BitVec 32 := Scalar.muli v7 c1_i32_409
  let v500 : BitVec 32 := Scalar.addi v498 v499
  v500.toNat
def k0_dev30 (d0 : Dev nD) : Nat :=
  let c0_i32_456 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_455 : BitVec 32 := 2#32
  let v548 : BitVec 32 := Scalar.muli v2 c2_i32_455
  let v549 : BitVec 32 := Scalar.addi c0_i32_456 v548
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_457 : BitVec 32 := 1#32
  let v550 : BitVec 32 := Scalar.muli v7 c1_i32_457
  let v551 : BitVec 32 := Scalar.addi v549 v550
  v551.toNat
def k0_dev31 (d0 : Dev nD) : Nat :=
  let c0_i32_480 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_479 : BitVec 32 := 2#32
  let v567 : BitVec 32 := Scalar.muli v2 c2_i32_479
  let v568 : BitVec 32 := Scalar.addi c0_i32_480 v567
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_481 : BitVec 32 := 1#32
  let v569 : BitVec 32 := Scalar.muli v7 c1_i32_481
  let v570 : BitVec 32 := Scalar.addi v568 v569
  v570.toNat
def k0_dev32 (d0 : Dev nD) : Nat :=
  let c0_i32_528 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_527 : BitVec 32 := 2#32
  let v618 : BitVec 32 := Scalar.muli v2 c2_i32_527
  let v619 : BitVec 32 := Scalar.addi c0_i32_528 v618
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_529 : BitVec 32 := 1#32
  let v620 : BitVec 32 := Scalar.muli v7 c1_i32_529
  let v621 : BitVec 32 := Scalar.addi v619 v620
  v621.toNat
def k0_dev33 (d0 : Dev nD) : Nat :=
  let c0_i32_552 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_551 : BitVec 32 := 2#32
  let v637 : BitVec 32 := Scalar.muli v2 c2_i32_551
  let v638 : BitVec 32 := Scalar.addi c0_i32_552 v637
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_553 : BitVec 32 := 1#32
  let v639 : BitVec 32 := Scalar.muli v7 c1_i32_553
  let v640 : BitVec 32 := Scalar.addi v638 v639
  v640.toNat
def k0_dev34 (d0 : Dev nD) : Nat :=
  let c0_i32_600 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_599 : BitVec 32 := 2#32
  let v688 : BitVec 32 := Scalar.muli v2 c2_i32_599
  let v689 : BitVec 32 := Scalar.addi c0_i32_600 v688
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_601 : BitVec 32 := 1#32
  let v690 : BitVec 32 := Scalar.muli v7 c1_i32_601
  let v691 : BitVec 32 := Scalar.addi v689 v690
  v691.toNat
def k0_dev35 (d0 : Dev nD) : Nat :=
  let c0_i32_624 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_623 : BitVec 32 := 2#32
  let v707 : BitVec 32 := Scalar.muli v2 c2_i32_623
  let v708 : BitVec 32 := Scalar.addi c0_i32_624 v707
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_625 : BitVec 32 := 1#32
  let v709 : BitVec 32 := Scalar.muli v7 c1_i32_625
  let v710 : BitVec 32 := Scalar.addi v708 v709
  v710.toNat
def k0_dev36 (d0 : Dev nD) : Nat :=
  let c0_i32_672 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_671 : BitVec 32 := 2#32
  let v758 : BitVec 32 := Scalar.muli v2 c2_i32_671
  let v759 : BitVec 32 := Scalar.addi c0_i32_672 v758
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_673 : BitVec 32 := 1#32
  let v760 : BitVec 32 := Scalar.muli v7 c1_i32_673
  let v761 : BitVec 32 := Scalar.addi v759 v760
  v761.toNat
def k0_dev37 (d0 : Dev nD) : Nat :=
  let c0_i32_696 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_695 : BitVec 32 := 2#32
  let v777 : BitVec 32 := Scalar.muli v2 c2_i32_695
  let v778 : BitVec 32 := Scalar.addi c0_i32_696 v777
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_697 : BitVec 32 := 1#32
  let v779 : BitVec 32 := Scalar.muli v7 c1_i32_697
  let v780 : BitVec 32 := Scalar.addi v778 v779
  v780.toNat
def k0_dev38 (d0 : Dev nD) : Nat :=
  let c0_i32_744 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_743 : BitVec 32 := 2#32
  let v828 : BitVec 32 := Scalar.muli v2 c2_i32_743
  let v829 : BitVec 32 := Scalar.addi c0_i32_744 v828
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_745 : BitVec 32 := 1#32
  let v830 : BitVec 32 := Scalar.muli v7 c1_i32_745
  let v831 : BitVec 32 := Scalar.addi v829 v830
  v831.toNat
def k0_dev39 (d0 : Dev nD) : Nat :=
  let c0_i32_768 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_767 : BitVec 32 := 2#32
  let v847 : BitVec 32 := Scalar.muli v2 c2_i32_767
  let v848 : BitVec 32 := Scalar.addi c0_i32_768 v847
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_769 : BitVec 32 := 1#32
  let v849 : BitVec 32 := Scalar.muli v7 c1_i32_769
  let v850 : BitVec 32 := Scalar.addi v848 v849
  v850.toNat
def k0_dev40 (d0 : Dev nD) : Nat :=
  let c0_i32_816 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_815 : BitVec 32 := 2#32
  let v898 : BitVec 32 := Scalar.muli v2 c2_i32_815
  let v899 : BitVec 32 := Scalar.addi c0_i32_816 v898
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_817 : BitVec 32 := 1#32
  let v900 : BitVec 32 := Scalar.muli v7 c1_i32_817
  let v901 : BitVec 32 := Scalar.addi v899 v900
  v901.toNat
def k0_dev41 (d0 : Dev nD) : Nat :=
  let c0_i32_840 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_839 : BitVec 32 := 2#32
  let v917 : BitVec 32 := Scalar.muli v2 c2_i32_839
  let v918 : BitVec 32 := Scalar.addi c0_i32_840 v917
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_841 : BitVec 32 := 1#32
  let v919 : BitVec 32 := Scalar.muli v7 c1_i32_841
  let v920 : BitVec 32 := Scalar.addi v918 v919
  v920.toNat
def k0_dev42 (d0 : Dev nD) : Nat :=
  let c0_i32_888 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_887 : BitVec 32 := 2#32
  let v968 : BitVec 32 := Scalar.muli v2 c2_i32_887
  let v969 : BitVec 32 := Scalar.addi c0_i32_888 v968
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_889 : BitVec 32 := 1#32
  let v970 : BitVec 32 := Scalar.muli v7 c1_i32_889
  let v971 : BitVec 32 := Scalar.addi v969 v970
  v971.toNat
def k0_dev43 (d0 : Dev nD) : Nat :=
  let c0_i32_912 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_911 : BitVec 32 := 2#32
  let v987 : BitVec 32 := Scalar.muli v2 c2_i32_911
  let v988 : BitVec 32 := Scalar.addi c0_i32_912 v987
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_913 : BitVec 32 := 1#32
  let v989 : BitVec 32 := Scalar.muli v7 c1_i32_913
  let v990 : BitVec 32 := Scalar.addi v988 v989
  v990.toNat
def k0_dev44 (d0 : Dev nD) : Nat :=
  let c0_i32_960 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_959 : BitVec 32 := 2#32
  let v1038 : BitVec 32 := Scalar.muli v2 c2_i32_959
  let v1039 : BitVec 32 := Scalar.addi c0_i32_960 v1038
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_961 : BitVec 32 := 1#32
  let v1040 : BitVec 32 := Scalar.muli v7 c1_i32_961
  let v1041 : BitVec 32 := Scalar.addi v1039 v1040
  v1041.toNat
def k0_dev45 (d0 : Dev nD) : Nat :=
  let c0_i32_984 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_983 : BitVec 32 := 2#32
  let v1057 : BitVec 32 := Scalar.muli v2 c2_i32_983
  let v1058 : BitVec 32 := Scalar.addi c0_i32_984 v1057
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_985 : BitVec 32 := 1#32
  let v1059 : BitVec 32 := Scalar.muli v7 c1_i32_985
  let v1060 : BitVec 32 := Scalar.addi v1058 v1059
  v1060.toNat
def k0_dev46 (d0 : Dev nD) : Nat :=
  let c0_i32_1032 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1031 : BitVec 32 := 2#32
  let v1108 : BitVec 32 := Scalar.muli v2 c2_i32_1031
  let v1109 : BitVec 32 := Scalar.addi c0_i32_1032 v1108
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1033 : BitVec 32 := 1#32
  let v1110 : BitVec 32 := Scalar.muli v7 c1_i32_1033
  let v1111 : BitVec 32 := Scalar.addi v1109 v1110
  v1111.toNat
def k0_dev47 (d0 : Dev nD) : Nat :=
  let c0_i32_1056 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1055 : BitVec 32 := 2#32
  let v1127 : BitVec 32 := Scalar.muli v2 c2_i32_1055
  let v1128 : BitVec 32 := Scalar.addi c0_i32_1056 v1127
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1057 : BitVec 32 := 1#32
  let v1129 : BitVec 32 := Scalar.muli v7 c1_i32_1057
  let v1130 : BitVec 32 := Scalar.addi v1128 v1129
  v1130.toNat
def k0_dev48 (d0 : Dev nD) : Nat :=
  let c0_i32_1104 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1103 : BitVec 32 := 2#32
  let v1178 : BitVec 32 := Scalar.muli v2 c2_i32_1103
  let v1179 : BitVec 32 := Scalar.addi c0_i32_1104 v1178
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1105 : BitVec 32 := 1#32
  let v1180 : BitVec 32 := Scalar.muli v7 c1_i32_1105
  let v1181 : BitVec 32 := Scalar.addi v1179 v1180
  v1181.toNat
def k0_dev49 (d0 : Dev nD) : Nat :=
  let c0_i32_1128 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1127 : BitVec 32 := 2#32
  let v1197 : BitVec 32 := Scalar.muli v2 c2_i32_1127
  let v1198 : BitVec 32 := Scalar.addi c0_i32_1128 v1197
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1129 : BitVec 32 := 1#32
  let v1199 : BitVec 32 := Scalar.muli v7 c1_i32_1129
  let v1200 : BitVec 32 := Scalar.addi v1198 v1199
  v1200.toNat
def k0_dev50 (d0 : Dev nD) : Nat :=
  let c0_i32_1176 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1175 : BitVec 32 := 2#32
  let v1248 : BitVec 32 := Scalar.muli v2 c2_i32_1175
  let v1249 : BitVec 32 := Scalar.addi c0_i32_1176 v1248
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1177 : BitVec 32 := 1#32
  let v1250 : BitVec 32 := Scalar.muli v7 c1_i32_1177
  let v1251 : BitVec 32 := Scalar.addi v1249 v1250
  v1251.toNat
def k0_dev51 (d0 : Dev nD) : Nat :=
  let c0_i32_1200 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1199 : BitVec 32 := 2#32
  let v1267 : BitVec 32 := Scalar.muli v2 c2_i32_1199
  let v1268 : BitVec 32 := Scalar.addi c0_i32_1200 v1267
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1201 : BitVec 32 := 1#32
  let v1269 : BitVec 32 := Scalar.muli v7 c1_i32_1201
  let v1270 : BitVec 32 := Scalar.addi v1268 v1269
  v1270.toNat
def k0_dev52 (d0 : Dev nD) : Nat :=
  let c0_i32_1248 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1247 : BitVec 32 := 2#32
  let v1318 : BitVec 32 := Scalar.muli v2 c2_i32_1247
  let v1319 : BitVec 32 := Scalar.addi c0_i32_1248 v1318
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1249 : BitVec 32 := 1#32
  let v1320 : BitVec 32 := Scalar.muli v7 c1_i32_1249
  let v1321 : BitVec 32 := Scalar.addi v1319 v1320
  v1321.toNat
def k0_dev53 (d0 : Dev nD) : Nat :=
  let c0_i32_1272 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1271 : BitVec 32 := 2#32
  let v1337 : BitVec 32 := Scalar.muli v2 c2_i32_1271
  let v1338 : BitVec 32 := Scalar.addi c0_i32_1272 v1337
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1273 : BitVec 32 := 1#32
  let v1339 : BitVec 32 := Scalar.muli v7 c1_i32_1273
  let v1340 : BitVec 32 := Scalar.addi v1338 v1339
  v1340.toNat
def k0_dev54 (d0 : Dev nD) : Nat :=
  let c0_i32_1320 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1319 : BitVec 32 := 2#32
  let v1388 : BitVec 32 := Scalar.muli v2 c2_i32_1319
  let v1389 : BitVec 32 := Scalar.addi c0_i32_1320 v1388
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1321 : BitVec 32 := 1#32
  let v1390 : BitVec 32 := Scalar.muli v7 c1_i32_1321
  let v1391 : BitVec 32 := Scalar.addi v1389 v1390
  v1391.toNat
def k0_dev55 (d0 : Dev nD) : Nat :=
  let c0_i32_1344 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1343 : BitVec 32 := 2#32
  let v1407 : BitVec 32 := Scalar.muli v2 c2_i32_1343
  let v1408 : BitVec 32 := Scalar.addi c0_i32_1344 v1407
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1345 : BitVec 32 := 1#32
  let v1409 : BitVec 32 := Scalar.muli v7 c1_i32_1345
  let v1410 : BitVec 32 := Scalar.addi v1408 v1409
  v1410.toNat
def k0_dev56 (d0 : Dev nD) : Nat :=
  let c0_i32_1392 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1391 : BitVec 32 := 2#32
  let v1458 : BitVec 32 := Scalar.muli v2 c2_i32_1391
  let v1459 : BitVec 32 := Scalar.addi c0_i32_1392 v1458
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1393 : BitVec 32 := 1#32
  let v1460 : BitVec 32 := Scalar.muli v7 c1_i32_1393
  let v1461 : BitVec 32 := Scalar.addi v1459 v1460
  v1461.toNat
def k0_dev57 (d0 : Dev nD) : Nat :=
  let c0_i32_1416 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1415 : BitVec 32 := 2#32
  let v1477 : BitVec 32 := Scalar.muli v2 c2_i32_1415
  let v1478 : BitVec 32 := Scalar.addi c0_i32_1416 v1477
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1417 : BitVec 32 := 1#32
  let v1479 : BitVec 32 := Scalar.muli v7 c1_i32_1417
  let v1480 : BitVec 32 := Scalar.addi v1478 v1479
  v1480.toNat
def k0_dev58 (d0 : Dev nD) : Nat :=
  let c0_i32_1464 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1463 : BitVec 32 := 2#32
  let v1528 : BitVec 32 := Scalar.muli v2 c2_i32_1463
  let v1529 : BitVec 32 := Scalar.addi c0_i32_1464 v1528
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1465 : BitVec 32 := 1#32
  let v1530 : BitVec 32 := Scalar.muli v7 c1_i32_1465
  let v1531 : BitVec 32 := Scalar.addi v1529 v1530
  v1531.toNat
def k0_dev59 (d0 : Dev nD) : Nat :=
  let c0_i32_1488 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1487 : BitVec 32 := 2#32
  let v1547 : BitVec 32 := Scalar.muli v2 c2_i32_1487
  let v1548 : BitVec 32 := Scalar.addi c0_i32_1488 v1547
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1489 : BitVec 32 := 1#32
  let v1549 : BitVec 32 := Scalar.muli v7 c1_i32_1489
  let v1550 : BitVec 32 := Scalar.addi v1548 v1549
  v1550.toNat
-- ==== ReferenceIdeal.lean ====
abbrev S65536x1024 : Shape := ⟨2, ![65536, 1024]⟩
abbrev S2x32768x1024 : Shape := ⟨3, ![2, 32768, 1024]⟩
abbrev S_ : Shape := ⟨0, ![]⟩
abbrev S32768x1024 : Shape := ⟨2, ![32768, 1024]⟩

abbrev nBuf : Space → Nat
  | .hbm => 4
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S2x32768x1024, .f32⟩
  | .hbm, ⟨2, _⟩ => ⟨S_, .f32⟩
  | .hbm, ⟨3, _⟩ => ⟨S32768x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Program.lean ====
/-
# The kernel's body as two loops over its nineteen chunks

The printed body is one straight line of four thousand statements. Here the same operations are written as a
prologue, a loop that starts the nineteen transfers along the mesh's first axis, a loop of nineteen steps (one per
chunk) and the closing waits, over a table that says, per chunk, how many rows it has, where it lies and which
device each of its operations names. `body_eq` states that the printed body is that program.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Kit
public import Idealize.ShloMosaic.Lib.Tactic

@[expose] public section

set_option synthInstance.maxSize 4096

noncomputable section

namespace Cert.KernelIdeal.TwoPhase

open Idealize.ShloMosaic Idealize.ShloMosaic.TcCoe Idealize.ShloMosaic.Tactic
open Idealize.SL Idealize.SL.Sem
open Cert.KernelIdeal.Gen

variable {F : FTy → Type} [FloatOps F]

/-- A block of `r` rows. -/
abbrev Rows (r : ℕ) : Shape := ⟨2, ![r, 1024]⟩
/-- The same block with a leading axis of one. -/
abbrev Slab (r : ℕ) : Shape := ⟨3, ![1, r, 1024]⟩

/-- The leading one can be dropped. -/
theorem slab_squeezes (r : ℕ) : (Slab r).Squeezes (Rows r) := by
  simp [Shape.Squeezes, List.ofFn_succ, Fin.succ, Shape.dropsOnes]

/-- A slab and its rows have the same elements. -/
theorem slab_numel (r : ℕ) : (Rows r).numel = (Slab r).numel := (slab_squeezes r).numel_eq

/-- What the body needs to know of one chunk: its number of rows, where it lies in the half the device sums and
    in the half it passes through, and the devices its three remote operations name. -/
@[ext] structure Chunk where
  /-- The rows. -/
  cr : ℕ
  /-- Its place in the device's own half, -/
  offX : Dev nD → Fin 2 → ℕ
  /-- and in the other half. -/
  offS : Dev nD → Fin 2 → ℕ
  /-- Where its rows of the argument go, -/
  d1 : Dev nD → Dev nD
  /-- where the credit goes once they have been read, -/
  d2 : Dev nD → Dev nD
  /-- and where the sum goes. -/
  d3 : Dev nD → Dev nD
  /-- Both places lie inside the array. -/
  hX : ∀ d a, offX d a + (Rows cr).size a ≤ S32768x1024.size a
  /-- See `hX`. -/
  hS : ∀ d a, offS d a + (Rows cr).size a ≤ S32768x1024.size a
  /-- A chunk has at least one row and at most a slot's. -/
  pos : 0 < cr
  /-- See `pos`. -/
  le : cr ≤ 1024

namespace Chunk

/-- A chunk's part of a slot is within the buffer, -/
theorem slab_inb (T : Chunk) (s : Fin 2) : ∀ a, (![s.val, 0, 0] : Fin 3 → ℕ) a + (Slab T.cr).size a ≤ S2x1024x1024.size a := by
  have := T.le; have := s.isLt
  intro a; fin_cases a <;> simp <;> omega

/-- and has an element. -/
theorem slab_pos (T : Chunk) : 0 < (Slab T.cr).numel :=
  Shape.numel_pos (by have := T.pos; intro a; fin_cases a <;> simp <;> omega)

end Chunk

/-- Each of nineteen semaphores is within its array; -/
theorem inb19 (i : Fin 19) : ∀ a, (![i.val] : Fin 1 → ℕ) a + S1.size a ≤ S19.size a := by
  have := i.isLt; intro a; fin_cases a; simp; omega
/-- each of four; -/
theorem inb4 (i : Fin 4) : ∀ a, (![i.val] : Fin 1 → ℕ) a + S1.size a ≤ S4.size a := by
  have := i.isLt; intro a; fin_cases a; simp; omega
/-- each of two. -/
theorem inb2 (i : Fin 2) : ∀ a, (![i.val] : Fin 1 → ℕ) a + S1.size a ≤ S2.size a := by
  have := i.isLt; intro a; fin_cases a; simp; omega

/-- The argument, the result and the two buffers of two slots each. -/
abbrev xM : Memref sig .tc .hbm S32768x1024 .f32 := Memref.whole main_arg0
/-- See `xM`. -/
abbrev oM : Memref sig .tc .hbm S32768x1024 .f32 := Memref.whole main_v1
/-- See `xM`. -/
abbrev aM : Memref sig .tc .vmem S2x1024x1024 .f32 := Memref.whole cc0_scratch0
/-- See `xM`. -/
abbrev bM : Memref sig .tc .vmem S2x1024x1024 .f32 := Memref.whole cc0_scratch1

/-- Semaphore `i` of an array of nineteen, -/
abbrev pick19 (a : DmaSems sig S19) (i : Fin 19) : DmaSem sig :=
  ((a.slice (Rect.unit (s := S19) ![i.val] S1.size (inb19 i))).squeeze S_ squeezes_S1_S_).sem
/-- of four, -/
abbrev pick4 (a : DmaSems sig S4) (i : Fin 4) : DmaSem sig :=
  ((a.slice (Rect.unit (s := S4) ![i.val] S1.size (inb4 i))).squeeze S_ squeezes_S1_S_).sem
/-- and of two. -/
abbrev pick2 (a : DmaSems sig S2) (i : Fin 2) : DmaSem sig :=
  ((a.slice (Rect.unit (s := S2) ![i.val] S1.size (inb2 i))).squeeze S_ squeezes_S1_S_).sem

/-- The chunk's rows of the argument, -/
abbrev xRows (T : Chunk) (d : Dev nD) : Memref sig .tc .hbm (Rows T.cr) .f32 :=
  xM.slice (Rect.unit (s := S32768x1024) (T.offX d) (Rows T.cr).size (T.hX d)) (fun _ => rfl)
/-- of the result in the half the device sums, -/
abbrev ownRows (T : Chunk) (d : Dev nD) : Memref sig .tc .hbm (Rows T.cr) .f32 :=
  oM.slice (Rect.unit (s := S32768x1024) (T.offX d) (Rows T.cr).size (T.hX d)) (fun _ => rfl)
/-- and of the result in the half it passes through. -/
abbrev passRows (T : Chunk) (d : Dev nD) : Memref sig .tc .hbm (Rows T.cr) .f32 :=
  oM.slice (Rect.unit (s := S32768x1024) (T.offS d) (Rows T.cr).size (T.hS d)) (fun _ => rfl)

/-- The rectangle of slot `s` that a chunk fills. -/
abbrev slabRect (T : Chunk) (s : Fin 2) : Rect S2x1024x1024 :=
  Rect.unit (s := S2x1024x1024) ![s.val, 0, 0] (Slab T.cr).size (T.slab_inb s)
/-- The chunk in slot `s` of the first buffer, -/
abbrev aRows (T : Chunk) (s : Fin 2) : Memref sig .tc .vmem (Rows T.cr) .f32 :=
  Memref.squeeze (aM.slice (slabRect T s) (fun _ => rfl)) (Rows T.cr) (slab_squeezes T.cr)
/-- and of the second. -/
abbrev bRows (T : Chunk) (s : Fin 2) : Memref sig .tc .vmem (Rows T.cr) .f32 :=
  Memref.squeeze (bM.slice (slabRect T s) (fun _ => rfl)) (Rows T.cr) (slab_squeezes T.cr)

/-- The slot chunk `i` uses. -/
abbrev par (i : Fin 19) : Fin 2 := ⟨i.val % 2, Nat.mod_lt _ (by decide)⟩
/-- The semaphore of its first load, -/
abbrev semA (i : Fin 19) : DmaSem sig := pick4 cc0_scratch6 ⟨i.val % 2, by omega⟩
/-- of its second, -/
abbrev semB (i : Fin 19) : DmaSem sig := pick4 cc0_scratch6 ⟨2 + i.val % 2, by omega⟩
/-- of its store, -/
abbrev semO (i : Fin 19) : DmaSem sig := pick2 cc0_scratch7 (par i)
/-- and of its two transfers, at either end. -/
abbrev semS1 (i : Fin 19) : DmaSem sig := pick19 cc0_scratch2 i
/-- See `semS1`. -/
abbrev semR1 (i : Fin 19) : DmaSem sig := pick19 cc0_scratch3 i
/-- See `semS1`. -/
abbrev semS2 (i : Fin 19) : DmaSem sig := pick19 cc0_scratch4 i
/-- See `semS1`. -/
abbrev semR2 (i : Fin 19) : DmaSem sig := pick19 cc0_scratch5 i

/-- The sum of two slabs. -/
def addSlab (r : ℕ) (u v : Vec F (Slab r) .f32) : FVec F (Slab r) .f32 :=
  shapeCast (Slab r) (addf (shapeCast (Rows r) u (slab_numel r)) (shapeCast (Rows r) v (slab_numel r))) (slab_numel r).symm

/-- The programs below: a TensorCore's, with no result. -/
abbrev Prg (F : FTy → Type) := Prog (TpuEff nD τ sig (Elt F) Λ₀ .tc) PUnit

/-- Run `f` on the last `k` of nineteen indices, in order. -/
def runLast (f : Fin 19 → Prg F) : (k : ℕ) → k ≤ 19 → Prg F
  | 0, _ => pure ⟨⟩
  | k + 1, h => f ⟨19 - (k + 1), by omega⟩ >>= fun _ => runLast f k (by omega)

/-- Start the transfer of chunk `i` of the argument. -/
def sendX (T : Fin 19 → Chunk) (d : Dev nD) (i : Fin 19) : Prg F :=
  Prog.lift (.enqueueDma (xRows (T i) d) (.remote (Dev.tc ((T i).d1 d)) (passRows (T i) d) (.dma (semS1 i))) (.dma (semR1 i))
    (View.wordExact_bits rfl) (View.wordExact_bits rfl) ⟨⟨rfl, Or.inl rfl⟩, trivial⟩)

/-- Wait until chunk `i`'s sum has left its slot, by its transfer and by its store. -/
def drain (T : Fin 19 → Chunk) (d : Dev nD) (i : Fin 19) : Prg F := do
  Prog.lift (.waitDma2 (semS2 i) (ownRows (T i) d) (aRows (T i) (par i)) (View.wordExact_bits rfl) ((View.wordExact_bits rfl).reshape _ _))
  Prog.lift (.waitDma2 (semO i) (aRows (T i) (par i)) (ownRows (T i) d) ((View.wordExact_bits rfl).reshape _ _) (View.wordExact_bits rfl))

/-- One chunk: load the device's own rows and the received ones, give the credit back, add, store the sum, and send it
    once the credit for it is here. -/
def sumChunk (T : Fin 19 → Chunk) (d : Dev nD) (i : Fin 19) : Prg F := do
  Prog.lift (.enqueueDma (xRows (T i) d) (.here (aRows (T i) (par i))) (.dma (semA i)) (View.wordExact_bits rfl)
    ((View.wordExact_bits rfl).reshape _ _) ⟨Or.inl rfl, trivial⟩)
  Prog.lift (.waitDma2 (semR1 i) (xRows (T i) d) (passRows (T i) d) (View.wordExact_bits rfl) (View.wordExact_bits rfl))
  Prog.lift (.enqueueDma (passRows (T i) d) (.here (bRows (T i) (par i))) (.dma (semB i)) (View.wordExact_bits rfl)
    ((View.wordExact_bits rfl).reshape _ _) ⟨Or.inl rfl, trivial⟩)
  Prog.lift (.waitDma2 (semA i) (xRows (T i) d) (aRows (T i) (par i)) (View.wordExact_bits rfl) ((View.wordExact_bits rfl).reshape _ _))
  Prog.lift (.waitDma2 (semB i) (passRows (T i) d) (bRows (T i) (par i)) (View.wordExact_bits rfl) ((View.wordExact_bits rfl).reshape _ _))
  semSignalWord ((T i).d2 d) cc0_scratch8.sem 1#32
  let u : Vec F (Slab (T i).cr) .f32 ← Prog.lift (.load aM (slabRect (T i) (par i)).toLoadRect (View.loadsAt_vmem (T i).slab_pos))
  let v : Vec F (Slab (T i).cr) .f32 ← Prog.lift (.load bM (slabRect (T i) (par i)).toLoadRect (View.loadsAt_vmem (T i).slab_pos))
  let _ : Vec F (Slab (T i).cr) .f32 ← Prog.lift (.load aM (slabRect (T i) (par i)).toLoadRect (View.loadsAt_vmem (T i).slab_pos))
  Prog.lift (.store aM (slabRect (T i) (par i)) (addSlab (F := F) (T i).cr u v) Finset.univ
    (View.stores_vmem_bits_univ (T i).slab_pos rfl) (.inl rfl))
  Prog.lift (.enqueueDma (aRows (T i) (par i)) (.here (ownRows (T i) d)) (.dma (semO i)) ((View.wordExact_bits rfl).reshape _ _)
    (View.wordExact_bits rfl) ⟨Or.inl rfl, trivial⟩)
  semWaitWord cc0_scratch8.sem 1#32
  Prog.lift (.enqueueDma (aRows (T i) (par i)) (.remote (Dev.tc ((T i).d3 d)) (ownRows (T i) d) (.dma (semS2 i))) (.dma (semR2 i))
    ((View.wordExact_bits rfl).reshape _ _) (View.wordExact_bits rfl) ⟨⟨rfl, Or.inl rfl⟩, trivial⟩)

/-- One step: from the third on, first drain the chunk two before, whose slot this one takes. -/
def step (T : Fin 19 → Chunk) (d : Dev nD) (i : Fin 19) : Prg F := do
  if 2 ≤ i.val then drain T d ⟨i.val - 2, by omega⟩ else pure ⟨⟩
  sumChunk T d i

/-- The two waits that end the transfers of chunk `i`. -/
def finish (T : Fin 19 → Chunk) (d : Dev nD) (i : Fin 19) : Prg F := do
  Prog.lift (.waitDma2 (semS1 i) (passRows (T i) d) (xRows (T i) d) (View.wordExact_bits rfl) (View.wordExact_bits rfl))
  Prog.lift (.waitDma2 (semR2 i) (aRows (T i) (par i)) (ownRows (T i) d) ((View.wordExact_bits rfl).reshape _ _) (View.wordExact_bits rfl))

/-- The runtime's barrier semaphore. -/
abbrev barS : Sem sig := (SemArray.scalar (sig.barrier 0 rfl) : Sems sig S_).sem

/-- The whole body: meet both neighbours, start the transfers, sum the chunks, and wait for the rest. -/
def prog (T : Fin 19 → Chunk) (n1 n2 : Dev nD → Dev nD) : Prg F := do
  let d ← Prog.lift .deviceId
  semSignalWord (n1 d) barS 1#32
  semSignalWord (n2 d) barS 1#32
  semWaitWord barS 2#32
  runLast (sendX T d) 19 le_rfl
  runLast (step T d) 19 le_rfl
  runLast (finish T d) 19 le_rfl
  drain T d 17
  drain T d 18

/-- The table as the body prints it. -/
def printed : Fin 19 → Chunk :=
  ![⟨1024, fun d => k0_off2 d 0#32, fun d => k0_off1 d 0#32, fun d => ⟨k0_dev3 d, k0_dev3_lt d⟩, fun d => ⟨k0_dev22 d, k0_dev22_lt d⟩, fun d => ⟨k0_dev23 d, k0_dev23_lt d⟩, fun d => k0_off2_inb d 0, fun d => k0_off1_inb d 0, by decide, by decide⟩,
    ⟨1024, fun d => k0_off2 d 1024#32, fun d => k0_off1 d 1024#32, fun d => ⟨k0_dev4 d, k0_dev4_lt d⟩, fun d => ⟨k0_dev24 d, k0_dev24_lt d⟩, fun d => ⟨k0_dev25 d, k0_dev25_lt d⟩, fun d => k0_off2_inb d 1, fun d => k0_off1_inb d 1, by decide, by decide⟩,
    ⟨1024, fun d => k0_off2 d 2048#32, fun d => k0_off1 d 2048#32, fun d => ⟨k0_dev5 d, k0_dev5_lt d⟩, fun d => ⟨k0_dev26 d, k0_dev26_lt d⟩, fun d => ⟨k0_dev27 d, k0_dev27_lt d⟩, fun d => k0_off2_inb d 2, fun d => k0_off1_inb d 2, by decide, by decide⟩,
    ⟨1024, fun d => k0_off2 d 3072#32, fun d => k0_off1 d 3072#32, fun d => ⟨k0_dev6 d, k0_dev6_lt d⟩, fun d => ⟨k0_dev28 d, k0_dev28_lt d⟩, fun d => ⟨k0_dev29 d, k0_dev29_lt d⟩, fun d => k0_off2_inb d 3, fun d => k0_off1_inb d 3, by decide, by decide⟩,
    ⟨1024, fun d => k0_off2 d 4096#32, fun d => k0_off1 d 4096#32, fun d => ⟨k0_dev7 d, k0_dev7_lt d⟩, fun d => ⟨k0_dev30 d, k0_dev30_lt d⟩, fun d => ⟨k0_dev31 d, k0_dev31_lt d⟩, fun d => k0_off2_inb d 4, fun d => k0_off1_inb d 4, by decide, by decide⟩,
    ⟨1024, fun d => k0_off2 d 5120#32, fun d => k0_off1 d 5120#32, fun d => ⟨k0_dev8 d, k0_dev8_lt d⟩, fun d => ⟨k0_dev32 d, k0_dev32_lt d⟩, fun d => ⟨k0_dev33 d, k0_dev33_lt d⟩, fun d => k0_off2_inb d 5, fun d => k0_off1_inb d 5, by decide, by decide⟩,
    ⟨1024, fun d => k0_off2 d 6144#32, fun d => k0_off1 d 6144#32, fun d => ⟨k0_dev9 d, k0_dev9_lt d⟩, fun d => ⟨k0_dev34 d, k0_dev34_lt d⟩, fun d => ⟨k0_dev35 d, k0_dev35_lt d⟩, fun d => k0_off2_inb d 6, fun d => k0_off1_inb d 6, by decide, by decide⟩,
    ⟨1024, fun d => k0_off2 d 7168#32, fun d => k0_off1 d 7168#32, fun d => ⟨k0_dev10 d, k0_dev10_lt d⟩, fun d => ⟨k0_dev36 d, k0_dev36_lt d⟩, fun d => ⟨k0_dev37 d, k0_dev37_lt d⟩, fun d => k0_off2_inb d 7, fun d => k0_off1_inb d 7, by decide, by decide⟩,
    ⟨1024, fun d => k0_off2 d 8192#32, fun d => k0_off1 d 8192#32, fun d => ⟨k0_dev11 d, k0_dev11_lt d⟩, fun d => ⟨k0_dev38 d, k0_dev38_lt d⟩, fun d => ⟨k0_dev39 d, k0_dev39_lt d⟩, fun d => k0_off2_inb d 8, fun d => k0_off1_inb d 8, by decide, by decide⟩,
    ⟨1024, fun d => k0_off2 d 9216#32, fun d => k0_off1 d 9216#32, fun d => ⟨k0_dev12 d, k0_dev12_lt d⟩, fun d => ⟨k0_dev40 d, k0_dev40_lt d⟩, fun d => ⟨k0_dev41 d, k0_dev41_lt d⟩, fun d => k0_off2_inb d 9, fun d => k0_off1_inb d 9, by decide, by decide⟩,
    ⟨1024, fun d => k0_off2 d 10240#32, fun d => k0_off1 d 10240#32, fun d => ⟨k0_dev13 d, k0_dev13_lt d⟩, fun d => ⟨k0_dev42 d, k0_dev42_lt d⟩, fun d => ⟨k0_dev43 d, k0_dev43_lt d⟩, fun d => k0_off2_inb d 10, fun d => k0_off1_inb d 10, by decide, by decide⟩,
    ⟨1024, fun d => k0_off2 d 11264#32, fun d => k0_off1 d 11264#32, fun d => ⟨k0_dev14 d, k0_dev14_lt d⟩, fun d => ⟨k0_dev44 d, k0_dev44_lt d⟩, fun d => ⟨k0_dev45 d, k0_dev45_lt d⟩, fun d => k0_off2_inb d 11, fun d => k0_off1_inb d 11, by decide, by decide⟩,
    ⟨1024, fun d => k0_off2 d 12288#32, fun d => k0_off1 d 12288#32, fun d => ⟨k0_dev15 d, k0_dev15_lt d⟩, fun d => ⟨k0_dev46 d, k0_dev46_lt d⟩, fun d => ⟨k0_dev47 d, k0_dev47_lt d⟩, fun d => k0_off2_inb d 12, fun d => k0_off1_inb d 12, by decide, by decide⟩,
    ⟨1024, fun d => k0_off2 d 13312#32, fun d => k0_off1 d 13312#32, fun d => ⟨k0_dev16 d, k0_dev16_lt d⟩, fun d => ⟨k0_dev48 d, k0_dev48_lt d⟩, fun d => ⟨k0_dev49 d, k0_dev49_lt d⟩, fun d => k0_off2_inb d 13, fun d => k0_off1_inb d 13, by decide, by decide⟩,
    ⟨1024, fun d => k0_off2 d 14336#32, fun d => k0_off1 d 14336#32, fun d => ⟨k0_dev17 d, k0_dev17_lt d⟩, fun d => ⟨k0_dev50 d, k0_dev50_lt d⟩, fun d => ⟨k0_dev51 d, k0_dev51_lt d⟩, fun d => k0_off2_inb d 14, fun d => k0_off1_inb d 14, by decide, by decide⟩,
    ⟨512, fun d => k0_off4 d, fun d => k0_off3 d, fun d => ⟨k0_dev18 d, k0_dev18_lt d⟩, fun d => ⟨k0_dev52 d, k0_dev52_lt d⟩, fun d => ⟨k0_dev53 d, k0_dev53_lt d⟩, fun d => k0_off4_inb d, fun d => k0_off3_inb d, by decide, by decide⟩,
    ⟨256, fun d => k0_off6 d, fun d => k0_off5 d, fun d => ⟨k0_dev19 d, k0_dev19_lt d⟩, fun d => ⟨k0_dev54 d, k0_dev54_lt d⟩, fun d => ⟨k0_dev55 d, k0_dev55_lt d⟩, fun d => k0_off6_inb d, fun d => k0_off5_inb d, by decide, by decide⟩,
    ⟨128, fun d => k0_off8 d 16128#32, fun d => k0_off7 d 16128#32, fun d => ⟨k0_dev20 d, k0_dev20_lt d⟩, fun d => ⟨k0_dev56 d, k0_dev56_lt d⟩, fun d => ⟨k0_dev57 d, k0_dev57_lt d⟩, fun d => k0_off8_inb d 0, fun d => k0_off7_inb d 0, by decide, by decide⟩,
    ⟨128, fun d => k0_off8 d 16256#32, fun d => k0_off7 d 16256#32, fun d => ⟨k0_dev21 d, k0_dev21_lt d⟩, fun d => ⟨k0_dev58 d, k0_dev58_lt d⟩, fun d => ⟨k0_dev59 d, k0_dev59_lt d⟩, fun d => k0_off8_inb d 1, fun d => k0_off7_inb d 1, by decide, by decide⟩]

/-- The printed body is the program above. -/
theorem body_eq (t : Fin cfg0.N) :
    bodyAt0 (F := F) t = prog printed (fun d => ⟨k0_dev1 d, k0_dev1_lt d⟩) (fun d => ⟨k0_dev2 d, k0_dev2_lt d⟩) := by
  sl_kernel_rfl

/-- The rows of chunk `i`, -/
abbrev sz : Fin 19 → ℕ := ![1024, 1024, 1024, 1024, 1024, 1024, 1024, 1024, 1024, 1024, 1024, 1024, 1024, 1024, 1024, 512, 256, 128, 128]
/-- and the rows before it. -/
abbrev st : Fin 19 → ℕ := ![0, 1024, 2048, 3072, 4096, 5120, 6144, 7168, 8192, 9216, 10240, 11264, 12288, 13312, 14336, 15360, 15872, 16128, 16256]

/-- A chunk has a row, -/
theorem sz_pos : ∀ i, 0 < sz i := by decide
/-- at most 1024 of them, -/
theorem sz_le : ∀ i, sz i ≤ 1024 := by decide
/-- and ends within its half. -/
theorem st_sz : ∀ i, st i + sz i ≤ 16384 := by decide

/-- The neighbour along the mesh's first axis, -/
def xn (d : Dev nD) : Dev nD := ⟨(d.val % 2 + 2) - 2 * (d.val / 2), by have : d.val < 4 := d.isLt; show _ < 4; omega⟩
/-- and along the second. -/
def yn (d : Dev nD) : Dev nD := ⟨(2 * (d.val / 2) + 1) - d.val % 2, by have : d.val < 4 := d.isLt; show _ < 4; omega⟩

/-- The half of the array a device sums, -/
def own (d : Dev nD) : ℕ := 16384 * (d.val % 2)
/-- and the one it passes through. -/
def pass (d : Dev nD) : ℕ := 16384 - 16384 * (d.val % 2)

/-- The own half starts in the middle at the latest, -/
theorem own_le (d : Dev nD) : own d ≤ 16384 := by unfold own; omega
/-- and so does the passed one. -/
theorem pass_le (d : Dev nD) : pass d ≤ 16384 := by unfold pass; omega

/-- A chunk's rows of a half are within the array. -/
theorem rows_inb {i : Fin 19} {b : ℕ} (h : b ≤ 16384) : ∀ a, (![b + st i, 0] : Fin 2 → ℕ) a + (Rows (sz i)).size a ≤ S32768x1024.size a := by
  have := st_sz i
  intro a; fin_cases a <;> simp <;> omega

/-- The table in closed form. -/
def chunk (i : Fin 19) : Chunk :=
  ⟨sz i, fun d => ![own d + st i, 0], fun d => ![pass d + st i, 0], xn, yn, yn, fun d => rows_inb (own_le d), fun d => rows_inb (pass_le d),
    sz_pos i, sz_le i⟩

/-- The chunks as the program spells them are the chunks of the schedule. -/
theorem printed_eq : printed = chunk := by
  funext i
  refine Chunk.ext ?_ (funext ?_) (funext ?_) (funext ?_) (funext ?_) (funext ?_) <;> revert i <;> decide +kernel

/-- The printed body, with its table in closed form. -/
theorem body_eq_chunk (t : Fin cfg0.N) : bodyAt0 (F := F) t = prog chunk xn yn := by
  rw [body_eq, printed_eq]
  congr 1 <;> (funext d; revert d; decide +kernel)

end Cert.KernelIdeal.TwoPhase

end
-- ==== Proof.Contents.lean ====
/-
# The contents the body moves

Sets of rows, the views of the program as such sets, and what the result holds at each stage: the rows received from
the neighbour along the first axis, the sum of the two devices' blocks, and the finished array.
-/
module

public import proofs.«01_k».proof.Proof.Program

@[expose] public section

set_option synthInstance.maxSize 4096

noncomputable section

namespace Cert.KernelIdeal.TwoPhase

open Idealize.ShloMosaic Idealize.ShloMosaic.TcCoe Idealize.ShloMosaic.Tactic
open Idealize.SL Idealize.SL.Sem
open Cert.KernelIdeal.Gen

variable {F : FTy → Type} [FloatOps F]

/-! ## Neighbours and halves -/

/-- Crossing the first axis twice leads back. -/
theorem xn_xn : ∀ d : Dev nD, xn (xn d) = d := by decide
/-- Crossing the second axis twice leads back. -/
theorem yn_yn : ∀ d : Dev nD, yn (yn d) = d := by decide
/-- Neighbours along the first axis own the same half, -/
theorem own_xn : ∀ d : Dev nD, own (xn d) = own d := by decide
/-- and pass the same half through. -/
theorem pass_xn : ∀ d : Dev nD, pass (xn d) = pass d := by decide
/-- Neighbours along the second axis own opposite halves. -/
theorem own_yn : ∀ d : Dev nD, own (yn d) = pass d := by decide
/-- See `own_yn`. -/
theorem pass_yn : ∀ d : Dev nD, pass (yn d) = own d := by decide
/-- A device's two neighbours are different devices. -/
theorem xn_ne_yn : ∀ d : Dev nD, xn d ≠ yn d := by decide
/-- A device's half is the first or the second, and the other one is the other. -/
theorem own_or : ∀ d : Dev nD, (own d = 0 ∧ pass d = 16384) ∨ (own d = 16384 ∧ pass d = 0) := by decide

/-! ## Rows -/

/-- The `n` rows from `lo` on. -/
def rowSet (lo n : ℕ) : Finset S32768x1024.Idx := Finset.univ.filter fun j => lo ≤ (j 0).val ∧ (j 0).val < lo + n

/-- An index is in a set of rows when its row is. -/
theorem mem_rowSet {lo n : ℕ} {j : S32768x1024.Idx} : j ∈ rowSet lo n ↔ lo ≤ (j 0).val ∧ (j 0).val < lo + n := by simp [rowSet]

/-- A rectangle of whole rows is a set of rows. -/
theorem set_rows {off : ℕ} {r : ℕ} (h : ∀ a, (![off, 0] : Fin 2 → ℕ) a + (Rows r).size a ≤ S32768x1024.size a) :
    (Rect.unit (s := S32768x1024) ![off, 0] (Rows r).size h).set = rowSet off r := by
  ext j
  rw [Rect.mem_set_unit, mem_rowSet]
  have h1 : (j 1).val < 1024 := (j 1).isLt
  constructor
  · intro H; exact H 0
  · intro H a; fin_cases a
    · exact H
    · exact ⟨Nat.zero_le _, show (j 1).val < 0 + 1024 by omega⟩

/-- A chunk's rows of the argument, of the half summed and of the half passed through, as sets. -/
theorem xRows_set (i : Fin 19) (c : Dev nD) : (xRows (chunk i) c).view.set = rowSet (own c + st i) (sz i) :=
  (View.set_slice_whole _ _).trans (set_rows _)
/-- See `xRows_set`. -/
theorem ownRows_set (i : Fin 19) (c : Dev nD) : (ownRows (chunk i) c).view.set = rowSet (own c + st i) (sz i) :=
  (View.set_slice_whole _ _).trans (set_rows _)
/-- See `xRows_set`. -/
theorem passRows_set (i : Fin 19) (c : Dev nD) : (passRows (chunk i) c).view.set = rowSet (pass c + st i) (sz i) :=
  (View.set_slice_whole _ _).trans (set_rows _)

/-- Slot `s` of a buffer, -/
def plane (s : Fin 2) : Finset S2x1024x1024.Idx := Finset.univ.filter fun k => (k 0).val = s.val
/-- and the part of its slot that chunk `i` fills. -/
def slabSet (i : Fin 19) : Finset S2x1024x1024.Idx := (slabRect (chunk i) (par i)).set

/-- The view of a chunk's part of a slot of the first buffer, as a set, -/
theorem aRows_set (i : Fin 19) : (aRows (chunk i) (par i)).view.set = slabSet i :=
  (View.set_reshape _ _).trans (View.set_slice_whole _ _)
/-- and of the second. -/
theorem bRows_set (i : Fin 19) : (bRows (chunk i) (par i)).view.set = slabSet i :=
  (View.set_reshape _ _).trans (View.set_slice_whole _ _)

/-- A chunk's part lies within its slot. -/
theorem slabSet_subset (i : Fin 19) : slabSet i ⊆ plane (par i) := by
  intro k hk
  have h := (Rect.mem_set_unit.1 hk) 0
  have h1 : (par i).val ≤ (k 0).val := h.1
  have h2 : (k 0).val < (par i).val + 1 := h.2
  exact Finset.mem_filter.2 ⟨Finset.mem_univ _, by omega⟩

/-- A chunk's part of its slot is not empty. -/
theorem slabSet_nonempty (i : Fin 19) : (slabSet i).Nonempty := by
  rw [← aRows_set]
  refine ⟨_, View.emb_mem_set _ (fun a => ⟨0, ?_⟩)⟩
  fin_cases a
  · exact sz_pos i
  · show 0 < 1024; decide

/-- A set of rows within the result is not empty. -/
theorem rowSet_nonempty {lo n : ℕ} (h : 0 < n) (h' : lo + n ≤ 32768) : (rowSet lo n).Nonempty :=
  ⟨fun a => match a with | ⟨0, _⟩ => ⟨lo, by show lo < 32768; omega⟩ | ⟨1, _⟩ => ⟨0, show 0 < 1024 by decide⟩,
    mem_rowSet.2 ⟨le_rfl, by show lo < lo + n; omega⟩⟩

/-- The two slots are the whole buffer. -/
theorem planes : plane 0 ∪ plane 1 = Finset.univ ∧ Disjoint (plane 0) (plane 1) := by
  constructor
  · ext k
    have : (k 0).val < 2 := (k 0).isLt
    simp only [plane, Finset.mem_union, Finset.mem_filter, Finset.mem_univ, true_and, iff_true]
    exact (by omega : (k 0).val = 0 ∨ (k 0).val = 1)
  · rw [Finset.disjoint_left]
    intro k h h'
    simp only [plane, Finset.mem_filter, Finset.mem_univ, true_and] at h h'
    rw [h] at h'; exact absurd h' (by decide)

/-! ## The chunks cut a half -/

/-- A chunk ends before a later one starts. -/
theorem st_mono : ∀ i j : Fin 19, i < j → st i + sz i ≤ st j := by decide

/-- Different chunks' rows are disjoint. -/
theorem rowSet_disjoint {b : ℕ} {i j : Fin 19} (h : i ≠ j) : Disjoint (rowSet (b + st i) (sz i)) (rowSet (b + st j) (sz j)) := by
  rw [Finset.disjoint_left]
  intro k hk hk'
  rw [mem_rowSet] at hk hk'
  rcases lt_or_gt_of_ne h with h | h
  · have := st_mono _ _ h; omega
  · have := st_mono _ _ h; omega

/-- Every row of a half is in a chunk. -/
theorem st_cover (n : ℕ) (h : n < 16384) : ∃ i : Fin 19, st i ≤ n ∧ n < st i + sz i := by
  by_cases h1 : n < 15360
  · refine ⟨⟨n / 1024, by omega⟩, ?_⟩
    have key : ∀ i : Fin 19, i.val < 15 → st i = 1024 * i.val ∧ sz i = 1024 := by decide
    obtain ⟨e1, e2⟩ := key ⟨n / 1024, by omega⟩ (by show n / 1024 < 15; omega)
    rw [e1, e2]
    show 1024 * (n / 1024) ≤ n ∧ n < 1024 * (n / 1024) + 1024
    omega
  by_cases h2 : n < 15872
  · exact ⟨15, by show 15360 ≤ n; omega, by show n < 15360 + 512; omega⟩
  by_cases h3 : n < 16128
  · exact ⟨16, by show 15872 ≤ n; omega, by show n < 15872 + 256; omega⟩
  by_cases h4 : n < 16256
  · exact ⟨17, by show 16128 ≤ n; omega, by show n < 16128 + 128; omega⟩
  · exact ⟨18, by show 16256 ≤ n; omega, by show n < 16256 + 128; omega⟩

/-- The nineteen chunks from `b` on are the half from `b` on. -/
theorem half_eq (b : ℕ) : (Finset.univ : Finset (Fin 19)).biUnion (fun i => rowSet (b + st i) (sz i)) = rowSet b 16384 := by
  ext j
  simp only [Finset.mem_biUnion, Finset.mem_univ, true_and, mem_rowSet]
  constructor
  · rintro ⟨i, h1, h2⟩; have := st_sz i; omega
  · rintro ⟨h1, h2⟩
    obtain ⟨i, h3, h4⟩ := st_cover ((j 0).val - b) (by omega)
    exact ⟨i, by omega, by omega⟩

/-- The two halves are the whole array. -/
theorem halves (c : Dev nD) : rowSet (own c) 16384 ∪ rowSet (pass c) 16384 = Finset.univ ∧ Disjoint (rowSet (own c) 16384) (rowSet (pass c) 16384) := by
  have ho := own_or c
  constructor
  · ext j
    have : (j 0).val < 32768 := (j 0).isLt
    simp only [Finset.mem_union, mem_rowSet, Finset.mem_univ, iff_true]
    omega
  · rw [Finset.disjoint_left]; intro j h h'
    rw [mem_rowSet] at h h'; omega

/-! ## What the result holds -/

section Values

variable (X : Dev nD → S32768x1024.Idx → F .f32)

/-- The same row in the other half. -/
def flip (j : S32768x1024.Idx) : S32768x1024.Idx := fun a =>
  match a with
  | ⟨0, _⟩ => ⟨((j 0).val + 16384) % 32768, Nat.mod_lt _ (by decide)⟩
  | ⟨1, _⟩ => j 1

/-- What a device receives in the half it passes through: its neighbour's rows of the half they both sum. -/
def mid (c : Dev nD) : S32768x1024.Idx → F .f32 := fun j => X (xn c) (flip j)
/-- The sum of a device's rows and its neighbour's. -/
def total (c : Dev nD) : S32768x1024.Idx → F .f32 := fun j => FloatOps.addf (X c j) (X (xn c) j)
/-- The finished array: each half as the device that sums it has it. -/
def fin (c : Dev nD) : S32768x1024.Idx → F .f32 := fun j => if own c ≤ (j 0).val ∧ (j 0).val < own c + 16384 then total X c j else total X (yn c) j

/-- A row of a chunk in the passed half, moved to the other half, is the same row of the chunk in the device's own half. -/
theorem flip_pass (i : Fin 19) (c : Dev nD) (j : (Rows (sz i)).Idx) :
    flip ((passRows (chunk i) c).view.emb j) = (xRows (chunk i) c).view.emb j := by
  have ho := own_or c
  have hj : (j 0).val < sz i := (j 0).isLt
  have hs := st_sz i
  funext a
  apply Fin.ext
  fin_cases a
  · show ((pass c + st i) + 1 * (j 0).val + 16384) % 32768 = (own c + st i) + 1 * (j 0).val
    omega
  · rfl

/-- Neighbours along the first axis read the same rows of their arguments, -/
theorem emb_xn (i : Fin 19) (c : Dev nD) (j : (Rows (sz i)).Idx) :
    (xRows (chunk i) (xn c)).view.emb j = (xRows (chunk i) c).view.emb j := by
  funext a
  apply Fin.ext
  fin_cases a
  · show (own (xn c) + st i) + 1 * (j 0).val = (own c + st i) + 1 * (j 0).val
    rw [own_xn]
  · rfl

/-- and pass the same rows through. -/
theorem passRows_xn (i : Fin 19) (c : Dev nD) (j : (Rows (sz i)).Idx) :
    (passRows (chunk i) (xn c)).view.emb j = (passRows (chunk i) c).view.emb j := by
  funext a
  apply Fin.ext
  fin_cases a
  · show (pass (xn c) + st i) + 1 * (j 0).val = (pass c + st i) + 1 * (j 0).val
    rw [pass_xn]
  · rfl

/-- The rows sent to the neighbour along the first axis are what it is to receive. -/
theorem mid_sent (i : Fin 19) (c : Dev nD) (j : (Rows (sz i)).Idx) :
    mid X (xn c) ((passRows (chunk i) c).view.emb j) = X c ((xRows (chunk i) c).view.emb j) := by
  unfold mid; rw [xn_xn, flip_pass]

/-- A chunk's rows of the own half lie in that half. -/
theorem own_emb (i : Fin 19) (c : Dev nD) (j : (Rows (sz i)).Idx) :
    own c ≤ (((ownRows (chunk i) c).view.emb j : S32768x1024.Idx) 0).val ∧ (((ownRows (chunk i) c).view.emb j : S32768x1024.Idx) 0).val < own c + 16384 := by
  have hj : (j 0).val < sz i := (j 0).isLt
  have hs := st_sz i
  have e : (((ownRows (chunk i) c).view.emb j : S32768x1024.Idx) 0).val = (own c + st i) + 1 * (j 0).val := rfl
  omega

/-- In its own half the finished array is the device's sum, -/
theorem fin_own (i : Fin 19) (c : Dev nD) (j : (Rows (sz i)).Idx) :
    fin X c ((ownRows (chunk i) c).view.emb j) = total X c ((ownRows (chunk i) c).view.emb j) := if_pos (own_emb i c j)

/-- and so it is on the neighbour along the second axis. -/
theorem fin_sent (i : Fin 19) (c : Dev nD) (j : (Rows (sz i)).Idx) :
    fin X (yn c) ((ownRows (chunk i) c).view.emb j) = total X c ((ownRows (chunk i) c).view.emb j) := by
  have h := own_emb i c j
  have ho := own_or c
  unfold fin; rw [own_yn, yn_yn, if_neg (by omega)]

/-- The two loads, the sum and the store leave in the slot the sum of the two devices' rows. -/
theorem stored (i : Fin 19) (c : Dev nD) (fa fb : S2x1024x1024.Idx → F .f32) :
    (aRows (chunk i) (par i)).view.read (Elt F)
      ((aM.access (slabRect (chunk i) (par i))).write (Elt F)
        ((aRows (chunk i) (par i)).view.write (Elt F) fa ((xRows (chunk i) c).view.read (Elt F) (X c)) Finset.univ)
        (addSlab (F := F) (sz i)
          ((aM.access (slabRect (chunk i) (par i))).read (Elt F)
            ((aRows (chunk i) (par i)).view.write (Elt F) fa ((xRows (chunk i) c).view.read (Elt F) (X c)) Finset.univ))
          ((bM.access (slabRect (chunk i) (par i))).read (Elt F)
            ((bRows (chunk i) (par i)).view.write (Elt F) fb ((passRows (chunk i) c).view.read (Elt F) (mid X c)) Finset.univ)))
        Finset.univ)
      = fun j => total X c ((ownRows (chunk i) c).view.emb j) := by
  have ra : ∀ g : S2x1024x1024.Idx → F .f32, (aRows (chunk i) (par i)).view.read (Elt F) g
      = fun j => (aM.access (slabRect (chunk i) (par i))).read (Elt F) g (Shape.reshapeEquiv (slab_numel (sz i)) j) := fun g => rfl
  have ra' : ∀ g : S2x1024x1024.Idx → F .f32, (fun j => (aM.access (slabRect (chunk i) (par i))).read (Elt F) g (Shape.reshapeEquiv (slab_numel (sz i)) j))
      = (aRows (chunk i) (par i)).view.read (Elt F) g := fun g => rfl
  have rb' : ∀ g : S2x1024x1024.Idx → F .f32, (fun j => (bM.access (slabRect (chunk i) (par i))).read (Elt F) g (Shape.reshapeEquiv (slab_numel (sz i)) j))
      = (bRows (chunk i) (par i)).view.read (Elt F) g := fun g => rfl
  refine (ra _).trans (funext fun j => ?_)
  refine (congrFun (View.read_write_univ _ _) _).trans ?_
  unfold addSlab shapeCast
  rw [Shape.reshapeEquiv_reshapeEquiv, Shape.reshapeEquiv_self]
  have h := mid_sent X i (xn c) j
  rw [xn_xn, passRows_xn, emb_xn] at h
  refine congrArg₂ FloatOps.addf ((congrFun (ra' _) j).trans ((congrFun (View.read_write_univ _ _) j).trans rfl))
    ((congrFun (rb' _) j).trans ((congrFun (View.read_write_univ _ _) j).trans h))

end Values

end Cert.KernelIdeal.TwoPhase

end
-- ==== Proof.Protocol.lean ====
/-
# The protocol

The cells the devices meet on, what each pays and hands over, and the order their waits follow.

A device's barrier cell is paid by both neighbours; the neighbour along the first axis hands over its whole passed half
of the result. A receive cell of the first phase is paid with the neighbour's rows. The credit cell is paid one unit per
chunk by the neighbour along the second axis: unit `i` says that every chunk up to `i` of that neighbour's passed half
has been read, so that the sum may be written there. A receive cell of the second phase is paid with the finished rows,
and the two send cells give the sender its sources back.
-/
module

public import proofs.«01_k».proof.Proof.Contents
public import Idealize.ShloMosaic.Lib.Pipeline.Launch
public import Idealize.ShloMosaic.Lib.Release

@[expose] public section

set_option synthInstance.maxSize 4096

noncomputable section

namespace Cert.KernelIdeal.TwoPhase

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers
open Cert.KernelIdeal.Gen

variable {F : FTy → Type} [FloatOps F]

/-! ## The algebra: the pipeline library's component, the cells' rounds, the passed chunks' releases, the local transfers -/

/-- The algebra of the rounds, -/
abbrev UB : Type := URounds (GSem nD τ sig) (Fin 19)
/-- of the releases, -/
abbrev UK : Type := USlots (Dev nD × Fin 19)
/-- of both with the local transfers, -/
abbrev UC : Type := UB × (UK × Counters)
/-- and of all with the pipeline library's. -/
abbrev UU : Type := UR sig nD τ × UC

local notation "𝕄" => MT nD τ sig ℕ (Elt F) ℕ UU ℕ

/-- Where the pipeline library's component sits, -/
abbrev EP : Emb (UR sig nD τ) (MT nD τ sig ℕ (Elt F) ℕ UU ℕ) := embL
/-- where the rest does, -/
abbrev EU : Emb UC (MT nD τ sig ℕ (Elt F) ℕ UU ℕ) := embR
/-- the rounds, -/
abbrev ER : Emb UB (MT nD τ sig ℕ (Elt F) ℕ UU ℕ) := (Emb.inl : Emb UB UC).trans EU
/-- the releases, -/
abbrev EK : Emb UK (MT nD τ sig ℕ (Elt F) ℕ UU ℕ) := (Emb.inl : Emb UK (UK × Counters)).trans ((Emb.inr : Emb (UK × Counters) UC).trans EU)
/-- and the local transfers. -/
abbrev EC : UEmb Counters (MT nD τ sig ℕ (Elt F) ℕ UU ℕ) := countersEmb

example : (ER : Emb UB 𝕄).LandsIn (upEmb : UEmb _ 𝕄) := inferInstance
example : (EK : Emb UK 𝕄).LandsIn (upEmb : UEmb _ 𝕄) := inferInstance

/-! ## The cells -/

/-- The kinds of cell of a device: its barrier, its credit, and per chunk the two ends of either phase's transfer. -/
inductive Kind
  | bar
  | cred
  | s1 (i : Fin 19)
  | r1 (i : Fin 19)
  | s2 (i : Fin 19)
  | r2 (i : Fin 19)
  deriving DecidableEq

/-- The kinds, listed. -/
def kindEquiv : (Unit ⊕ Unit) ⊕ ((Fin 19 ⊕ Fin 19) ⊕ (Fin 19 ⊕ Fin 19)) ≃ Kind where
  toFun
    | .inl (.inl _) => .bar
    | .inl (.inr _) => .cred
    | .inr (.inl (.inl i)) => .s1 i
    | .inr (.inl (.inr i)) => .r1 i
    | .inr (.inr (.inl i)) => .s2 i
    | .inr (.inr (.inr i)) => .r2 i
  invFun
    | .bar => .inl (.inl ())
    | .cred => .inl (.inr ())
    | .s1 i => .inr (.inl (.inl i))
    | .r1 i => .inr (.inl (.inr i))
    | .s2 i => .inr (.inr (.inl i))
    | .r2 i => .inr (.inr (.inr i))
  left_inv := by rintro ((_ | _) | ((_ | _) | (_ | _))) <;> rfl
  right_inv := by rintro (_ | _ | _ | _ | _ | _) <;> rfl

/-- There are finitely many kinds. -/
instance : Fintype Kind := Fintype.ofEquiv _ kindEquiv

/-- The credit semaphore. -/
abbrev credS : Sem sig := cc0_scratch8.sem

/-- A kind's semaphore, -/
def csem : Kind → SemLoc sig
  | .bar => .reg barS
  | .cred => .reg credS
  | .s1 i => .dma (semS1 i)
  | .r1 i => .dma (semR1 i)
  | .s2 i => .dma (semS2 i)
  | .r2 i => .dma (semR2 i)

/-- and a semaphore's kind. -/
def kind : SemLoc sig → Option Kind
  | .reg q => if q = barS then some .bar else if q = credS then some .cred else none
  | .dma q =>
    if h : q.val < 19 then some (.s1 ⟨q.val, h⟩)
    else if h : q.val - 19 < 19 then some (.r1 ⟨q.val - 19, h⟩)
    else if h : q.val - 38 < 19 then some (.s2 ⟨q.val - 38, h⟩)
    else if h : q.val - 57 < 19 then some (.r2 ⟨q.val - 57, h⟩)
    else none

/-- A kind's semaphore is of that kind. -/
theorem kind_csem (k : Kind) : kind (csem k) = some k := by
  rcases k with _ | _ | i | i | i | i
  · rfl
  · rfl
  all_goals (revert i; decide)

/-- Different kinds have different semaphores, -/
theorem csem_inj : Function.Injective csem := fun a b h => by
  have := congrArg kind h; rw [kind_csem, kind_csem] at this; exact Option.some.inj this

/-- A device's cell. -/
abbrev kcell (x : Dev nD × Kind) : GSem nD τ sig := ((x.1 : Thread nD τ), csem x.2)

/-- and different devices and kinds different cells. -/
theorem kcell_inj : Function.Injective kcell := fun a b h => by
  have h1 : a.1 = b.1 := by have := congrArg (fun g : GSem nD τ sig => g.1.1) h; exact this
  have h2 : csem a.2 = csem b.2 := congrArg Prod.snd h
  exact Prod.ext h1 (csem_inj h2)

/-- Separating conjunction over the kinds, kind by kind. -/
theorem bigSep_kind (Φ : Kind → sProp 𝕄) :
    bigSep Finset.univ Φ = iprop((Φ .bar ∗ Φ .cred) ∗ ((bigSep Finset.univ (fun i => Φ (.s1 i)) ∗ bigSep Finset.univ (fun i => Φ (.r1 i)))
      ∗ (bigSep Finset.univ (fun i => Φ (.s2 i)) ∗ bigSep Finset.univ (fun i => Φ (.r2 i))))) := by
  rw [bigSep_univ_equiv kindEquiv, bigSep_univ_sum, bigSep_univ_sum, bigSep_univ_sum, bigSep_univ_sum, bigSep_univ_sum,
    bigSep_univ_of_subsingleton (), bigSep_univ_of_subsingleton ()]
  rfl

/-! ## What the cells hand over -/

/-- The credit of a chunk's transfers. -/
def N (i : Fin 19) : ℕ := (passRows (chunk i) 0).view.dmaCredit
/-- A chunk's credit is positive. -/
theorem N_pos (i : Fin 19) : 0 < N i :=
  View.dmaCredit_pos _ (Shape.numel_pos (by have := sz_pos i; intro a; fin_cases a <;> [exact this; exact Nat.succ_pos _]))

variable (X : Dev nD → S32768x1024.Idx → F .f32)

/-- Chunk `i` of the half of `c`'s result that starts at row `b`, holding `f`; -/
def outAt (c : Dev nD) (b : ℕ) (i : Fin 19) (f : S32768x1024.Idx → F .f32) : sProp 𝕄 :=
  ((c : Thread nD τ).loc main_v1) ↦[rowSet (b + st i) (sz i)]{fullShare} f
/-- and holding anything. -/
def outAny (c : Dev nD) (b : ℕ) (i : Fin 19) : sProp 𝕄 :=
  slot ((c : Thread nD τ).loc main_v1) (rowSet (b + st i) (sz i))
/-- Chunk `i` of the argument, at a share. -/
def xAt (c : Dev nD) (q : PosShare TreeShare) (i : Fin 19) : sProp 𝕄 :=
  ((c : Thread nD τ).loc main_arg0) ↦[rowSet (own c + st i) (sz i)]{q} X c
/-- Chunk `i`'s part of its slot, at a share, holding anything. -/
def aAny (c : Dev nD) (q : PosShare TreeShare) (i : Fin 19) : sProp 𝕄 :=
  iprop(∃ f, ((c : Thread nD τ).loc cc0_scratch0) ↦[slabSet i]{q} f)
/-- Device `c` has read every chunk up to `d` of its passed half. -/
def readUpTo (c : Dev nD) (d : Fin 19) : sProp 𝕄 :=
  bigSep (Finset.univ.filter fun j : Fin 19 => j ≤ d) fun j => released EK (c, j) 1
/-- A device's passed half, chunk by chunk. -/
def lent (c : Dev nD) : sProp 𝕄 := bigSep Finset.univ fun i => outAny (F := F) c (pass c) i

/-- What the cells hand over may be kept in an invariant, here and below. -/
instance outAt_storable (c : Dev nD) (b i f) : BI.Storable (upEmb : UEmb _ 𝕄) (outAt (F := F) c b i f) := by unfold outAt; infer_instance
instance outAny_storable (c : Dev nD) (b i) : BI.Storable (upEmb : UEmb _ 𝕄) (outAny (F := F) c b i) := by unfold outAny; infer_instance
instance xAt_storable (c : Dev nD) (q i) : BI.Storable (upEmb : UEmb _ 𝕄) (xAt (F := F) X c q i) := by unfold xAt; infer_instance
instance aAny_storable (c : Dev nD) (q i) : BI.Storable (upEmb : UEmb _ 𝕄) (aAny (F := F) c q i) := by unfold aAny; infer_instance
instance readUpTo_storable (c : Dev nD) (d) : BI.Storable (upEmb : UEmb _ 𝕄) (readUpTo (F := F) c d) := by unfold readUpTo; infer_instance
instance readUpTo_persistent (c : Dev nD) (d) : BI.Persistent (readUpTo (F := F) c d) := by unfold readUpTo; infer_instance
instance lent_storable (c : Dev nD) : BI.Storable (upEmb : UEmb _ 𝕄) (lent (F := F) c) := by unfold lent; infer_instance

/-- The duties of a kind of cell, -/
def kDuties : Option Kind → Finset (Fin 19)
  | some .bar => {0, 1}
  | some .cred => Finset.univ
  | some _ => {0}
  | none => ∅
/-- what each of them pays, -/
def kAmount : Option Kind → ℕ
  | some (.s1 i) => N i
  | some (.r1 i) => N i
  | some (.s2 i) => N i
  | some (.r2 i) => N i
  | _ => 1
/-- and what it hands over. -/
def kPay (c : Dev nD) : Option Kind → Fin 19 → sProp 𝕄
  | some .bar, d => if d = 0 then lent (xn c) else iprop(emp)
  | some .cred, d => readUpTo (yn c) d
  | some (.s1 i), _ => xAt X c fullShare.right i
  | some (.r1 i), _ => outAt c (pass c) i (mid X c)
  | some (.s2 i), _ => aAny c fullShare.right i
  | some (.r2 i), _ => outAt c (pass c) i (fin X c)
  | none, _ => iprop(emp)

/-- Every payload may be kept in an invariant. -/
instance kPay_storable (c : Dev nD) (k d) : BI.Storable (upEmb : UEmb _ 𝕄) (kPay (F := F) X c k d) := by
  rcases k with _ | (_ | _ | _ | _ | _ | _) <;> unfold kPay
  case some.bar =>
    by_cases h : d = 0
    · simp only [h, if_true]; infer_instance
    · simp only [h, if_false]; infer_instance
  all_goals infer_instance

/-- The schedule: one round per cell. -/
def sched : Rounds.Schedule (GSem nD τ sig) (Fin 19) 𝕄 where
  duties g r := if r = 0 ∧ g.1.2 = .tc then kDuties (kind g.2) else ∅
  unitless _ := False
  amount g _ _ := kAmount (kind g.2)
  payload g _ d := kPay X g.1.1 (kind g.2) d
  amount_pos g _ _ _ := by
    show 0 < kAmount (kind g.2)
    rcases kind g.2 with _ | (_ | _ | _ | _ | _ | _) <;> first | exact Nat.one_pos | exact N_pos _

/-- See `kPay_storable`. -/
instance sched_storable (g : GSem nD τ sig) (r : ℕ) (d : Fin 19) : BI.Storable (upEmb : UEmb _ 𝕄) ((sched (F := F) X).payload g r d) := by
  show BI.Storable upEmb (kPay X g.1.1 (kind g.2) d); infer_instance

/-- The first round of a cell has its kind's duties, -/
theorem duties_eq (x : Dev nD × Kind) : (sched X).duties (kcell x) 0 = kDuties (some x.2) := by
  dsimp only [sched]
  rw [if_pos (And.intro rfl rfl), kind_csem]
/-- and there is no other round; -/
theorem duties_later (g : GSem nD τ sig) : ∀ r, 1 ≤ r → (sched (F := F) X).duties g r = ∅ :=
  fun r hr => by dsimp only [sched]; exact if_neg fun h => by omega
/-- it is paid its kind's amounts, -/
theorem amount_eq (x : Dev nD × Kind) (d : Fin 19) : (sched X).amount (kcell x) 0 d = kAmount (some x.2) := by
  show kAmount (kind (csem x.2)) = _; rw [kind_csem]
/-- and handed its kind's payloads. -/
theorem payload_eq (x : Dev nD × Kind) (d : Fin 19) : (sched X).payload (kcell x) 0 d = kPay X x.1 (some x.2) d := by
  show kPay X x.1 (kind (csem x.2)) d = _; rw [kind_csem]
/-- The total a cell is paid. -/
theorem expect_eq (x : Dev nD × Kind) : (sched X).expect (kcell x) 0 = (kDuties (some x.2)).card * kAmount (some x.2) := by
  unfold Schedule.expect Schedule.amountOf
  rw [duties_eq, Finset.sum_congr rfl fun d _ => amount_eq X x d, Finset.sum_const, smul_eq_mul]

/-- The whole round's payload of a cell with one duty. -/
theorem rest_one (x : Dev nD × Kind) (h : kDuties (some x.2) = {0}) :
    bigSep ((sched X).duties (kcell x) 0 \ ∅) (fun d => (sched X).payload (kcell x) 0 d) = kPay X x.1 (some x.2) 0 := by
  rw [Finset.sdiff_empty, duties_eq, h, bigSep_singleton, payload_eq]
/-- The barrier's. -/
theorem rest_bar (c : Dev nD) :
    bigSep ((sched X).duties (kcell (c, .bar)) 0 \ ∅) (fun d => (sched X).payload (kcell (c, .bar)) 0 d) = iprop(lent (xn c) ∗ emp) := by
  rw [Finset.sdiff_empty, duties_eq]
  show bigSep {0, 1} _ = _
  rw [bigSep_insert (by decide), bigSep_singleton, payload_eq, payload_eq]
  rfl

/-! ## What is owed, and the order of the waits -/

/-- The chunks from `k` on. -/
def rem (k : ℕ) : Finset (Fin 19) := Finset.univ.filter fun i => k ≤ i.val

/-- The chunks from one on are that one and those after it. -/
theorem rem_peel (i : Fin 19) : rem i.val = insert i (rem (i.val + 1)) := by
  ext j; simp only [rem, Finset.mem_filter, Finset.mem_univ, true_and, Finset.mem_insert]
  constructor
  · intro h; rcases Nat.eq_or_lt_of_le h with h | h
    · exact Or.inl (Fin.ext h.symm)
    · exact Or.inr h
  · rintro (rfl | h)
    · exact le_rfl
    · omega
/-- A chunk is not after itself. -/
theorem not_mem_rem (i : Fin 19) : i ∉ rem (i.val + 1) := by simp [rem]
/-- At first all chunks remain, -/
theorem rem_zero : rem 0 = Finset.univ := by simp [rem]
/-- at the end none. -/
theorem rem_end : rem 19 = ∅ := by
  ext j; have := j.isLt; simp [rem]
/-- A sum over the remaining chunks, the first one taken off. -/
theorem rem_sum {A : Type} [AddCommMonoid A] (f : Fin 19 → A) (i : Fin 19) : ∑ j ∈ rem i.val, f j = (∑ j ∈ rem (i.val + 1), f j) + f i := by
  rw [rem_peel, Finset.sum_insert (not_mem_rem i), add_comm]

/-- What a device owes the neighbour along the first axis once `k` chunks are on their way, -/
def owedX (c : Dev nD) (k : ℕ) : CellTallies nD τ sig ℕ := ∑ i ∈ rem k, tallyAt (kcell (xn c, .r1 i)) 0 (N i)
/-- and the one along the second once `k` chunks are summed. -/
def owedY (c : Dev nD) (k : ℕ) : CellTallies nD τ sig ℕ := ∑ i ∈ rem k, (tallyAt (kcell (yn c, .r2 i)) 0 (N i) + tallyAt (kcell (yn c, .cred)) i.val 1)
/-- One chunk's debt to the neighbour along the first axis, taken off. -/
theorem owedX_peel (c : Dev nD) (i : Fin 19) : owedX c i.val = owedX c (i.val + 1) + tallyAt (kcell (xn c, .r1 i)) 0 (N i) := rem_sum _ i
/-- One chunk's debts to the neighbour along the second axis, taken off. -/
theorem owedY_peel (c : Dev nD) (i : Fin 19) :
    owedY c i.val = owedY c (i.val + 1) + tallyAt (kcell (yn c, .r2 i)) 0 (N i) + tallyAt (kcell (yn c, .cred)) i.val 1 :=
  (rem_sum _ i).trans (add_assoc _ _ _).symm
/-- With all chunks sent nothing is owed along the first axis, -/
theorem owedX_end (c : Dev nD) : owedX c 19 = 0 := by unfold owedX; rw [rem_end, Finset.sum_empty]
/-- with all summed nothing along the second. -/
theorem owedY_end (c : Dev nD) : owedY c 19 = 0 := by unfold owedY; rw [rem_end, Finset.sum_empty]
/-- What it owes at launch: the barrier signals come off first. -/
def owed₁ (c : Dev nD) : CellTallies nD τ sig ℕ := (owedY c 0 + owedX c 0) + tallyAt (kcell (yn c, .bar)) 0 1
/-- See `owed₁`. -/
def owed₀ (c : Dev nD) : CellTallies nD τ sig ℕ := owed₁ c + tallyAt (kcell (xn c, .bar)) 0 1

/-- The indices of a cell's tallies: the credit cell's units are told apart. -/
def L (g : GSem nD τ sig) : Finset ℕ := if g.1.2 = .tc then Finset.range 19 else ∅
/-- The order: the barrier, the first phase, the credit units in turn, the second phase; what nobody else pays is below. -/
def kLevel : Option Kind → ℕ → ℕ
  | some .bar, _ => 1
  | some (.r1 _), _ => 2
  | some .cred, ι => 3 + ι
  | some (.r2 _), _ => 100
  | _, _ => 0
/-- See `kLevel`. -/
def lv (g : GSem nD τ sig) (ι : ℕ) : ℕ := kLevel (kind g.2) ι

/-- Other cores have no tallies. -/
theorem L_of_ne (g : GSem nD τ sig) (h : g.1.2 ≠ .tc) : L g = ∅ := if_neg h
/-- Every cell of a device has nineteen indices. -/
theorem L_tc (c : Dev nD) (sm : SemLoc sig) : L ((c : Thread nD τ), sm) = Finset.range 19 := if_pos rfl

/-- Everything owed lies above level `b`. -/
def Above (b : ℕ) (O : CellTallies nD τ sig ℕ) : Prop := ∀ g ι, 0 < O g ι → ι ∈ L g ∧ b < lv g ι

/-- Nothing lies above every level, -/
theorem Above.zero (b : ℕ) : Above b 0 := fun g ι h => absurd h (Nat.lt_irrefl 0)
/-- two debts do if both do, -/
theorem Above.add {b : ℕ} {O O' : CellTallies nD τ sig ℕ} (h : Above b O) (h' : Above b O') : Above b (O + O') := fun g ι hp => by
  rw [Pi.add_apply, Finsupp.add_apply] at hp
  by_cases hz : 0 < O g ι
  · exact h g ι hz
  · exact h' g ι (by omega)
/-- a sum does if all its terms do, -/
theorem Above.sum {b : ℕ} {S : Finset (Fin 19)} {O : Fin 19 → CellTallies nD τ sig ℕ} (h : ∀ i ∈ S, Above b (O i)) : Above b (∑ i ∈ S, O i) := by
  induction S using Finset.induction_on with
  | empty => exact Above.zero b
  | insert i S hi ih =>
    rw [Finset.sum_insert hi]
    exact (h i (Finset.mem_insert_self _ _)).add (ih fun j hj => h j (Finset.mem_insert_of_mem hj))
/-- and a single debt does if its cell does. -/
theorem Above.tally {b : ℕ} (x : Dev nD × Kind) (ι n : ℕ) (hι : ι < 19) (hb : b < kLevel (some x.2) ι) : Above b (tallyAt (kcell x) ι n) := fun g ι' hp => by
  rw [tallyAt_apply] at hp
  by_cases h : g = kcell x ∧ ι' = ι
  · rw [h.1, h.2, L_tc]
    exact ⟨Finset.mem_range.2 hι, by show b < kLevel (kind (csem x.2)) ι; rw [kind_csem]; exact hb⟩
  · rw [if_neg h] at hp; exact absurd hp (Nat.lt_irrefl 0)

/-- The debts along the first axis lie above the barrier; -/
theorem above_owedX {b : ℕ} (hb : b < 2) (c : Dev nD) (k : ℕ) : Above b (owedX c k) :=
  Above.sum fun i _ => Above.tally _ _ _ (by decide) (by show b < 2; omega)
/-- those along the second above the first phase and the credits of earlier chunks. -/
theorem above_owedY {b : ℕ} (c : Dev nD) (k : ℕ) (hb : b < 3 + k) (hb' : b < 100) : Above b (owedY c k) :=
  Above.sum fun i hi => by
    have h : k ≤ i.val := (Finset.mem_filter.1 hi).2
    exact (Above.tally _ _ _ (by decide) hb').add (Above.tally _ _ _ i.isLt (by show b < 3 + i.val; omega))

/-- A device may wait at a level below all it owes. -/
theorem mayWait (c : Dev nD) (sm : SemLoc sig) (ι b : ℕ) (hι : ι < 19) (hb : kLevel (kind sm) ι ≤ b) {O : CellTallies nD τ sig ℕ} (h : Above b O) :
    (levAts L lv : sProp 𝕄) ⊢ MayWait (c : Thread nD τ) sm ι O :=
  MayOwe.of_cut (L := L) (lev := lv) b
    (fun p hp => by rw [Finset.mem_singleton.mp hp, L_tc]; exact Finset.mem_range.2 hι)
    (fun g u hg => (h g u hg).1)
    (fun p hp => by rw [Finset.mem_singleton.mp hp]; exact hb)
    (fun g u hg => (h g u hg).2)

/-! ## The records every device holds -/

/-- The rows a device's release `(c, j)` is about. -/
def passSlot (y : Dev nD × Fin 19) : sProp 𝕄 := outAny (F := F) y.1 (pass y.1) y.2

/-- A release's rows may be kept in an invariant. -/
instance passSlot_storable (y : Dev nD × Fin 19) : BI.Storable (upEmb : UEmb _ 𝕄) (passSlot (F := F) y) := by unfold passSlot; infer_instance

/-- Every cell's invariant and the mark that its round has begun, every release's invariant, and the levels. -/
def records (K : Dev nD × Kind → ℕ) (J : Dev nD × Fin 19 → ℕ) : sProp 𝕄 :=
  iprop((bigSep Finset.univ fun x => iprop(cellInv ER (sched X) (K x) (kcell x) ∗ reached ER (kcell x) 0))
    ∗ (bigSep Finset.univ fun y => slotInv EK (J y) y (passSlot y)) ∗ levAts L lv)

/-- The records may be kept. -/
instance records_persistent (K J) : BI.Persistent (records (F := F) X K J) := by unfold records; infer_instance

/-- From the records, one cell's invariant; -/
theorem records_cell (K : Dev nD × Kind → ℕ) (J : Dev nD × Fin 19 → ℕ) (x : Dev nD × Kind) :
    records X K J ⊢ iprop(cellInv ER (sched X) (K x) (kcell x) ∗ reached ER (kcell x) 0) := by
  have h : (bigSep Finset.univ fun x => iprop(cellInv ER (sched X) (K x) (kcell x) ∗ reached ER (kcell x) 0) : sProp 𝕄)
      ⊢ iprop(cellInv ER (sched X) (K x) (kcell x) ∗ reached ER (kcell x) 0) := bigSep_elim (Finset.mem_univ x)
  unfold records
  iintro ⟨H, -⟩
  iapply h $$ H

/-- one release's; -/
theorem records_slot (K : Dev nD × Kind → ℕ) (J : Dev nD × Fin 19 → ℕ) (y : Dev nD × Fin 19) :
    records (F := F) X K J ⊢ slotInv EK (J y) y (passSlot y) := by
  have h : (bigSep Finset.univ fun y => slotInv EK (J y) y (passSlot (F := F) y) : sProp 𝕄) ⊢ slotInv EK (J y) y (passSlot y) :=
    bigSep_elim (Finset.mem_univ y)
  unfold records
  iintro ⟨-, H, -⟩
  iapply h $$ H

/-- the levels. -/
theorem records_lev (K : Dev nD × Kind → ℕ) (J : Dev nD × Fin 19 → ℕ) : records (F := F) X K J ⊢ levAts L lv := by
  unfold records
  iintro ⟨-, -, H⟩
  iexact H

end Cert.KernelIdeal.TwoPhase

end
-- ==== Proof.Ops.lean ====
/-
# The body's operations, one rule each

What each wait, signal and transfer of the body takes and gives under the protocol.
-/
module

public import proofs.«01_k».proof.Proof.Protocol

@[expose] public section

set_option synthInstance.maxSize 4096

noncomputable section

namespace Cert.KernelIdeal.TwoPhase

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers
open Cert.KernelIdeal.Gen

variable {F : FTy → Type} [FloatOps F]

local notation "𝕄" => MT nD τ sig ℕ (Elt F) ℕ UU ℕ

/-- No kernel here has a variant. -/
abbrev 𝒱₀ : Variants := Variants.none

/-- The weakest precondition of a program on device `c`. -/
abbrev run (c : Dev nD) (e : Prg F) (Q : PUnit → sProp 𝕄) : sProp 𝕄 :=
  wp frame (wpE (defs₀ (F := F)) 𝒱₀ (c : Thread nD τ) none) Set.univ e Q

/-- What the device still owes, whatever it has waited for. -/
def owing (c : Dev nD) (O : CellTallies nD τ sig ℕ) : sProp 𝕄 := iprop(∃ W, owes (c : Thread nD τ) O W)

variable (X : Dev nD → S32768x1024.Idx → F .f32) (K : Dev nD × Kind → ℕ) (J : Dev nD × Fin 19 → ℕ)

/-! ## The views, as the protocol names their rows -/

/-- A chunk of the argument, read through its view; -/
theorem xAt_eq (c : Dev nD) (q : PosShare TreeShare) (i : Fin 19) :
    xAt X c q i = ((xRows (chunk i) c).view.loc (c : Thread nD τ) ↦[(xRows (chunk i) c).view.set]{q} X c : sProp 𝕄) :=
  congrArg (fun S : Finset S32768x1024.Idx => ((((c : Thread nD τ).loc main_arg0) ↦[S]{q} X c) : sProp 𝕄)) (xRows_set i c).symm

/-- a chunk of the passed half; -/
theorem passAt_eq (t c : Dev nD) (i : Fin 19) (f : S32768x1024.Idx → F .f32) :
    outAt t (pass c) i f = ((passRows (chunk i) c).view.loc (t : Thread nD τ) ↦[(passRows (chunk i) c).view.set]{fullShare} f : sProp 𝕄) :=
  congrArg (fun S : Finset S32768x1024.Idx => ((((t : Thread nD τ).loc main_v1) ↦[S]{fullShare} f) : sProp 𝕄)) (passRows_set i c).symm

/-- a chunk of the own half. -/
theorem ownAt_eq (t c : Dev nD) (i : Fin 19) (f : S32768x1024.Idx → F .f32) :
    outAt t (own c) i f = ((ownRows (chunk i) c).view.loc (t : Thread nD τ) ↦[(ownRows (chunk i) c).view.set]{fullShare} f : sProp 𝕄) :=
  congrArg (fun S : Finset S32768x1024.Idx => ((((t : Thread nD τ).loc main_v1) ↦[S]{fullShare} f) : sProp 𝕄)) (ownRows_set i c).symm

/-- A chunk that holds anything holds something. -/
theorem outAny_eq (c : Dev nD) (b : ℕ) (i : Fin 19) : outAny (F := F) c b i = iprop(∃ f, outAt c b i f) := rfl

/-- Writing through a chunk's view leaves any contents that read what was written. -/
theorem pass_written (t c : Dev nD) (i : Fin 19) (fd g : S32768x1024.Idx → F .f32) (w : (Rows (sz i)).Idx → F .f32)
    (h : ∀ j, g ((passRows (chunk i) c).view.emb j) = w j) :
    ((passRows (chunk i) c).view.loc (t : Thread nD τ) ↦[(passRows (chunk i) c).view.set]{fullShare}
      (passRows (chunk i) c).view.write (Elt F) fd w Finset.univ : sProp 𝕄) = outAt t (pass c) i g := by
  rw [passAt_eq]
  refine pointsTo_congr fun k hk => ?_
  obtain ⟨j, -, rfl⟩ := Finset.mem_map.1 hk
  exact (View.write_emb_of_mem _ _ (Finset.mem_univ j)).trans (h j).symm

/-- See `pass_written`. -/
theorem own_written (t c : Dev nD) (i : Fin 19) (fd g : S32768x1024.Idx → F .f32) (w : (Rows (sz i)).Idx → F .f32)
    (h : ∀ j, g ((ownRows (chunk i) c).view.emb j) = w j) :
    ((ownRows (chunk i) c).view.loc (t : Thread nD τ) ↦[(ownRows (chunk i) c).view.set]{fullShare}
      (ownRows (chunk i) c).view.write (Elt F) fd w Finset.univ : sProp 𝕄) = outAt t (own c) i g := by
  rw [ownAt_eq]
  refine pointsTo_congr fun k hk => ?_
  obtain ⟨j, -, rfl⟩ := Finset.mem_map.1 hk
  exact (View.write_emb_of_mem _ _ (Finset.mem_univ j)).trans (h j).symm

/-! ## The operations -/

/-- A transfer into the passed half credits the chunk's amount, -/
theorem amount_pass (c : Dev nD) (i : Fin 19) (q : DmaSem sig) : (passRows (chunk i) c).view.amount (.dma q) = N i := rfl
/-- and so does one into the own half. -/
theorem amount_own (c : Dev nD) (i : Fin 19) (q : DmaSem sig) : (ownRows (chunk i) c).view.amount (.dma q) = N i := rfl

/-- A cell with one duty has the duty `0`. -/
theorem duty_zero (c : Dev nD) (k : Kind) (hk : kDuties (some k) = {0}) : (0 : Fin 19) ∈ (sched X).duties (kcell (c, k)) 0 := by
  rw [duties_eq, hk]; exact Finset.mem_singleton_self _

/-- The transfer of a chunk of the argument to the neighbour along the first axis. -/
theorem send_x (c : Dev nD) (i : Fin 19) (Oy : CellTallies nD τ sig ℕ) :
    iprop(records X K J ∗ (xAt X c fullShare.right i ∗ outAny (xn c) (pass c) i ∗ dutyTok ER (kcell (c, .s1 i)) 0 0 ∗ dutyTok ER (kcell (xn c, .r1 i)) 0 0)
        ∗ owing c (Oy + owedX c i.val))
      ⊢ run c (sendX chunk c i) (fun _ => iprop(cred (tallyAt (kcell (c, .s1 i)) 0 (N i)) ∗ owing c (Oy + owedX c (i.val + 1)))) := by
  have hpay₂ : ∀ fd : S32768x1024.Idx → F .f32, ((passRows (chunk i) c).view.loc (xn c : Thread nD τ) ↦[(passRows (chunk i) c).view.set]{fullShare}
      (passRows (chunk i) c).view.write (Elt F) fd ((xRows (chunk i) c).view.read (Elt F) (X c)) Finset.univ : sProp 𝕄)
      ⊢ (sched X).payload (kcell (xn c, .r1 i)) 0 0 := fun fd => by
    rw [payload_eq, pass_written (xn c) c i fd (mid X (xn c)) ((xRows (chunk i) c).view.read (Elt F) (X c)) (mid_sent X i c)]
    show _ ⊢ outAt (xn c) (pass (xn c)) i (mid X (xn c))
    rw [pass_xn]
  rw [outAny_eq]; unfold owing
  iintro ⟨#HR, ⟨Hx, ⟨%fd, Hd⟩, Ht1, Ht2⟩, ⟨%W, HO⟩⟩
  ihave HI := (records_cell X K J (c, .s1 i)) $$ HR
  icases HI with ⟨#HI1, #Hr1⟩
  ihave HI := (records_cell X K J (xn c, .r1 i)) $$ HR
  icases HI with ⟨#HI2, #Hr2⟩
  ihave Hx := (Entails.of_eq (xAt_eq X c fullShare.right i)) $$ Hx
  ihave Hd := (Entails.of_eq (passAt_eq (xn c) c i fd)) $$ Hd
  unfold sendX
  simp only [Prog.lift]
  iapply (Rounds.wp_send_pointsTo 𝒱₀ ER (sched X) (c : Thread nD τ) none (κ₁ := K (c, .s1 i)) (κ₂ := K (xn c, .r1 i))
      (c' := (xn c : Thread nD τ)) (src := xRows (chunk i) c) (dst := passRows (chunk i) c) (sS := .dma (semS1 i)) (sem := .dma (semR1 i))
      (q := fullShare.right) (fs := X c) (r₁ := 0) (r₂ := 0) (d₁ := 0) (d₂ := 0) (fd := fd)
      (duty_zero X c (.s1 i) rfl) (duty_zero X (xn c) (.r1 i) rfl) 0 0 (N i) (amount_pass c i _) (amount_eq X (c, .s1 i) 0) (amount_eq X (xn c, .r1 i) 0) (Oy + owedX c (i.val + 1))
      (O₀ := Oy + owedX c i.val) ((congrArg (Oy + ·) (owedX_peel c i)).trans (add_assoc _ _ _).symm) (W := W)
      (by rw [← xAt_eq]; exact Entails.of_eq (payload_eq X (c, .s1 i) 0).symm)
      (hpay₂ fd)) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact Hr1
    isplitl [Ht2]; · iexact Ht2
    iexact Hr2
  iintro ⟨Hc, HO⟩
  rw [wp_ret]; imodintro
  isplitl [Hc]; · iexact Hc
  iexists W; iexact HO

/-- A wait for the whole round of a cell with one duty: what it hands over, and the counter back at zero. -/
theorem wait_cell (c : Dev nD) (k : Kind) (q : DmaSem sig) (hq : csem k = .dma q) (hk : kDuties (some k) = {0})
    {O : CellTallies nD τ sig ℕ} (b : ℕ) (hb : kLevel (some k) 0 ≤ b) (hO : Above b O)
    {sp sp' : Space} {s s' : Shape} {e e' : EltTy} {srcw : Memref sig .tc sp' s' e'} {dstw : Memref sig .tc sp s e}
    {hsrc : srcw.view.WordExact} {hdst : dstw.view.WordExact} (hN : dstw.view.dmaCredit = kAmount (some k))
    {cont : PUnit → Prg F} {Q : PUnit → sProp 𝕄} :
    iprop(records X K J ∗ atPos ER (kcell (c, k)) 0 ∅ 0 ∗ cred (tallyAt (kcell (c, k)) 0 (kAmount (some k))) ∗ owing c O)
      ⊢ iprop(((owing c O ∗ kPay X c (some k) 0 ∗ semVal (kcell (c, k)) 0) -∗ run c (cont ⟨⟩) Q)
          -∗ run c (.op (.waitDma2 q srcw dstw hsrc hdst) cont) Q) := by
  have hlev : (levAts L lv : sProp 𝕄) ⊢ MayWait (c : Thread nD τ) (.dma q) 0 O :=
    mayWait c (.dma q) 0 b (by decide) (by rw [← hq, kind_csem]; exact hb) hO
  have hcell : kcell (c, k) = ((c : Thread nD τ), SemLoc.dma q) := by unfold kcell; rw [hq]
  have hrest := rest_one X (c, k) hk
  have hexp : 0 + kAmount (some k) = (sched X).expect (kcell (c, k)) 0 := by rw [expect_eq, hk]; simp
  rw [hcell] at hrest hexp
  unfold owing
  iintro ⟨#HR, Hat, Hc, ⟨%W, HO⟩⟩ Hk
  ihave HI := (records_cell X K J (c, k)) $$ HR
  icases HI with ⟨#HI, -⟩
  ihave #Hlev := (records_lev X K J) $$ HR
  rw [hcell]
  iapply (Rounds.wp_wait_rest_token 𝒱₀ ER (sched X) (c : Thread nD τ) none (κ := K (c, k))
      (wpE_waitDma2_eq 𝒱₀ (c : Thread nD τ) none Set.univ) (Set.mem_univ _) 0 (O := O) (W := W) (R := 0) (m := 0) (T := ∅)
      (by rw [hN]; exact hexp)) $$ [Hc HO Hat]
  · isplitr; · iexact HI
    isplitl [Hc]; · rw [hN]; iexact Hc
    isplitl [HO]; · iexact HO
    isplitr; · iapply hlev; iexact Hlev
    iexact Hat
  iintro ⟨HO, Hat, -, Hpay⟩
  ihave Hp := (Entails.of_eq hrest) $$ Hpay
  imod (Rounds.cell_close ER (sched X) (Set.mem_univ (K (c, k))) (fun h => h) (R := 0 + 1) (duties_later X ((c : Thread nD τ), SemLoc.dma q))) $$ [Hat] with Hz
  · isplitr; · iexact HI
    iexact Hat
  iapply Hk
  isplitl [HO]; · iexists _; iexact HO
  isplitl [Hp]; · iexact Hp
  iexact Hz

/-! ## The summing steps -/

/-- The three semaphores of a slot's local transfers, at zero. -/
def slotSems (c : Dev nD) (s : Fin 2) : sProp 𝕄 :=
  iprop(semVal ((c : Thread nD τ), SemLoc.dma (pick4 cc0_scratch6 ⟨s.val, by omega⟩)) 0 ∗ semVal ((c : Thread nD τ), SemLoc.dma (pick4 cc0_scratch6 ⟨2 + s.val, by omega⟩)) 0)
/-- A slot free to be filled. -/
def free (c : Dev nD) (s : Fin 2) : sProp 𝕄 :=
  iprop((∃ f, ((c : Thread nD τ).loc cc0_scratch0) ↦[plane s]{fullShare} f) ∗ semVal ((c : Thread nD τ), SemLoc.dma (pick2 cc0_scratch7 s)) 0 ∗ slotSems c s)
/-- What the store of a sum delivers: the chunk of the result, and the half of the slot it read. -/
def stores (c : Dev nD) (i : Fin 19) : sProp 𝕄 := iprop(outAt c (own c) i (fin X c) ∗ aAny c fullShare.left i)
/-- A slot whose sum is on its way, stored here and sent to the neighbour along the second axis. -/
def flying (c : Dev nD) (i : Fin 19) : sProp 𝕄 :=
  iprop((atPos ER (kcell (c, .s2 i)) 0 ∅ 0 ∗ cred (tallyAt (kcell (c, .s2 i)) 0 (N i)))
    ∗ Flight EC (c : Thread nD τ) (.dma (semO i)) 0 (N i) (stores X c i)
    ∗ (∃ f, ((c : Thread nD τ).loc cc0_scratch0) ↦[plane (par i) \ slabSet i]{fullShare} f) ∗ slotSems c (par i))

/-- The semaphores of the local transfers are of no kind: the one of the store of the sum, -/
theorem kind_semO (i : Fin 19) : kind (.dma (semO i)) = none := by revert i; decide
/-- of the load of the own rows, -/
theorem kind_semA (i : Fin 19) : kind (.dma (semA i)) = none := by revert i; decide
/-- and of the load of the staged rows. -/
theorem kind_semB (i : Fin 19) : kind (.dma (semB i)) = none := by revert i; decide

/-- Both halves of a slot's filled part, whatever they hold, and the rest of the slot make the slot. -/
theorem slot_back (c : Dev nD) (i : Fin 19) :
    iprop(aAny (F := F) c fullShare.left i ∗ aAny (F := F) c fullShare.right i
        ∗ (∃ f, ((c : Thread nD τ).loc cc0_scratch0) ↦[plane (par i) \ slabSet i]{fullShare} f))
      ⊢ iprop(∃ f, ((c : Thread nD τ).loc cc0_scratch0) ↦[plane (par i)]{fullShare} f) := by
  unfold aAny
  iintro ⟨⟨%f, Hf⟩, ⟨%g, Hg⟩, ⟨%r, Hr⟩⟩
  ihave %hfg := (pointsTo_agree (ℓ := (c : Thread nD τ).loc cc0_scratch0) (I := slabSet i) (J := slabSet i) (q₁ := fullShare.left) (q₂ := fullShare.right) (f := f) (g := g)) $$ [Hf Hg]
  · isplitl [Hf] <;> iassumption
  ihave Hg := (Entails.of_eq (pointsTo_congr (ℓ := (c : Thread nD τ).loc cc0_scratch0) (I := slabSet i) (q := fullShare.right) (f := g) (g := f)
    (fun k hk => ((hfg k (Finset.mem_inter.2 ⟨hk, hk⟩)).1).symm))) $$ Hg
  ihave H := (pointsTo_share (PosShare.mem_left_op_right fullShare)).2 $$ [Hf Hg]
  · isplitl [Hf] <;> iassumption
  iexists _
  iapply (pointsTo_join_subset (ℓ := (c : Thread nD τ).loc cc0_scratch0) (q := fullShare) (slabSet_subset i) (g := f) (f := r))
  isplitl [H] <;> iassumption

/-- Draining a chunk's slot. -/
theorem drain_spec (c : Dev nD) (i : Fin 19) {O : CellTallies nD τ sig ℕ} (hO : Above 0 O) :
    iprop(records X K J ∗ flying X c i ∗ owing c O)
      ⊢ run c (drain chunk c i) (fun _ => iprop((outAt c (own c) i (fin X c) ∗ semVal (kcell (c, .s2 i)) 0) ∗ free c (par i) ∗ owing c O)) := by
  have hlev : (levAts L lv : sProp 𝕄) ⊢ MayWait (c : Thread nD τ) (.dma (semO i)) 0 O :=
    mayWait c (.dma (semO i)) 0 0 (by decide) (by rw [kind_semO]; exact le_rfl) hO
  unfold flying
  iintro ⟨#HR, ⟨⟨Hat, Hc⟩, Hfl, Hrest, Hss⟩, HO⟩
  unfold drain
  simp only [Prog.lift, Prog.bind_op, Prog.bind_ret, Prog.pure_eq_ret]
  iapply (wait_cell X K J c (.s2 i) (semS2 i) rfl rfl 0 (le_refl 0) hO (dstw := aRows (chunk i) (par i)) (srcw := ownRows (chunk i) c) rfl) $$ [Hat Hc HO]
  · isplitr; · iexact HR
    isplitl [Hat]; · iexact Hat
    isplitl [Hc]; · iexact Hc
    iexact HO
  iintro ⟨HO, Hr, Hz⟩
  ihave Hr := (Entails.of_eq (show kPay X c (some (.s2 i)) 0 = aAny c fullShare.right i from rfl)) $$ Hr
  ihave #Hlev := (records_lev X K J) $$ HR
  unfold owing
  icases HO with ⟨%W, HO⟩
  iapply (wp_waitLocalO EC 𝒱₀ (c : Thread nD τ) none (dstw := ownRows (chunk i) c) 0 (N := N i) rfl (D := stores X c i) (O := O) (W := W)) $$ [Hfl HO]
  · isplitl [Hfl]; · iexact Hfl
    isplitl [HO]; · iexact HO
    iapply hlev; iexact Hlev
  unfold stores
  iintro ⟨⟨Hout, Hl⟩, Hzo, HO⟩
  rw [wp_ret]; imodintro
  isplitl [Hout Hz]; · isplitl [Hout] <;> iassumption
  isplitr [HO]
  · unfold free
    isplitl [Hl Hr Hrest]
    · iapply (slot_back c i)
      isplitl [Hl]; · iexact Hl
      isplitl [Hr]; · iexact Hr
      iexact Hrest
    isplitl [Hzo]; · iexact Hzo
    iexact Hss
  · iexists _; iexact HO

end Cert.KernelIdeal.TwoPhase

end
-- ==== Proof.Step.lean ====
/-
# One summing step

A chunk's step: its rows and the received ones are loaded, the receipt is released and the credit given, the sum is
stored in the slot and sent on once the credit for it is here.
-/
module

public import proofs.«01_k».proof.Proof.Ops

@[expose] public section

set_option synthInstance.maxSize 4096

noncomputable section

namespace Cert.KernelIdeal.TwoPhase

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers
open Cert.KernelIdeal.Gen

variable {F : FTy → Type} [FloatOps F]

local notation "𝕄" => MT nD τ sig ℕ (Elt F) ℕ UU ℕ

variable (X : Dev nD → S32768x1024.Idx → F .f32) (K : Dev nD × Kind → ℕ) (J : Dev nD × Fin 19 → ℕ)

/-! ## Releases and credits -/

/-- The chunks before `k`. -/
def before (k : ℕ) : Finset (Fin 19) := Finset.univ.filter fun j => j.val < k

/-- Device `c` has read the first `k` chunks it received. -/
def readFirst (c : Dev nD) (k : ℕ) : sProp 𝕄 := bigSep (before k) fun j => released EK (c, j) 1
/-- That chunks have been read may be kept. -/
instance readFirst_persistent (c : Dev nD) (k) : BI.Persistent (readFirst (F := F) c k) := by unfold readFirst; infer_instance

/-- The chunks before the next one are this one and those before it. -/
theorem before_succ (i : Fin 19) : before (i.val + 1) = insert i (before i.val) := by
  ext j; simp only [before, Finset.mem_filter, Finset.mem_univ, true_and, Finset.mem_insert]
  constructor
  · intro h; rcases Nat.lt_or_eq_of_le (Nat.le_of_lt_succ h) with h | h
    · exact Or.inr h
    · exact Or.inl (Fin.ext h)
  · rintro (rfl | h)
    · exact Nat.lt_succ_self _
    · omega
/-- A chunk is not before itself. -/
theorem not_mem_before (i : Fin 19) : i ∉ before i.val := by simp [before]

/-- With one more chunk read, one more is released. -/
theorem readFirst_succ (c : Dev nD) (i : Fin 19) :
    readFirst (F := F) c (i.val + 1) = iprop(released EK (c, i) 1 ∗ readFirst c i.val) := by
  unfold readFirst; rw [before_succ, bigSep_insert (not_mem_before i)]; rfl
/-- All chunks before the next one are all up to this one. -/
theorem readFirst_upTo (c : Dev nD) (i : Fin 19) : readFirst (F := F) c (i.val + 1) = readUpTo c i := by
  unfold readFirst readUpTo; congr 1
  ext j; simp only [before, Finset.mem_filter, Finset.mem_univ, true_and]
  exact Nat.lt_succ_iff.trans Iff.rfl

/-- Device `c` has taken `k` of its credits: what the ones it knows of say. -/
def credits (c : Dev nD) (k : ℕ) : sProp 𝕄 :=
  iprop(∃ T, ⌜k + (Finset.univ \ T : Finset (Fin 19)).card ≤ 19⌝ ∗ atPos ER (kcell (c, .cred)) 0 T k ∗ bigSep T fun d => readUpTo (yn c) d)

/-- The signal that gives credit `i` to the neighbour along the second axis. -/
theorem give_credit (c : Dev nD) (i : Fin 19) (O : CellTallies nD τ sig ℕ) {cont : PUnit → Prg F} {Q : PUnit → sProp 𝕄} :
    iprop(records X K J ∗ owing c (O + tallyAt (kcell (yn c, .cred)) i.val 1) ∗ dutyTok ER (kcell (yn c, .cred)) 0 i ∗ readUpTo c i)
      ⊢ iprop((owing c O -∗ run c (cont ⟨⟩) Q)
          -∗ run c (.op (.semSignal (yn c : Thread nD τ) credS ((1 : ℕ) : ℤ)) cont) Q) := by
  have hpay : (sched X).payload ((yn c : Thread nD τ), SemLoc.reg credS) 0 i = readUpTo c i :=
    (payload_eq X (yn c, .cred) i).trans (by show readUpTo (yn (yn c)) i = _; rw [yn_yn])
  unfold owing
  iintro ⟨#HR, ⟨%W, HO⟩, Ht, Hp⟩ Hk
  ihave HI := (records_cell X K J (yn c, .cred)) $$ HR
  icases HI with ⟨#HI, #Hr⟩
  iapply (Rounds.wp_signal 𝒱₀ ER (sched X) (c : Thread nD τ) none (dst := (yn c : Thread nD τ)) (sem := credS) (κ := K (yn c, .cred)) (r := 0)
      (d := i) (k' := 1) (by have h := duties_eq X (yn c, .cred); exact h ▸ Finset.mem_univ i) (amount_eq X (yn c, .cred) i) i.val O rfl (W := W))
    $$ [HO Ht Hp]
  · isplitr; · iexact HI
    isplitl [HO]; · iexact HO
    isplitl [Ht]; · iexact Ht
    isplitl [Hp]
    · iapply (Entails.of_eq hpay.symm); iexact Hp
    iexact Hr
  iintro HO
  iapply Hk
  iexists W; iexact HO

/-- The wait for the next credit, and what it allows: the rows of the neighbour the sum goes to. -/
theorem take_credit (c : Dev nD) (i : Fin 19) {O : CellTallies nD τ sig ℕ} (hO : Above (3 + i.val) O) {cont : PUnit → Prg F} {Q : PUnit → sProp 𝕄} :
    iprop(records X K J ∗ credits c i.val ∗ cred (tallyAt (kcell (c, .cred)) i.val 1) ∗ writeTok EK (yn c, i) 1 ∗ owing c O)
      ⊢ iprop(((owing c O ∗ credits c (i.val + 1) ∗ outAny (yn c) (own c) i) -∗ run c (cont ⟨⟩) Q)
          -∗ run c (.op (.semWait credS ((1 : ℕ) : ℤ)) cont) Q) := by
  have hlev : (levAts L lv : sProp 𝕄) ⊢ MayWait (c : Thread nD τ) (.reg credS) i.val O :=
    mayWait c (.reg credS) i.val (3 + i.val) i.isLt (by rw [show kind (.reg credS) = some .cred from kind_csem .cred]; exact le_rfl) hO
  have hd : (sched X).duties (kcell (c, .cred)) 0 = Finset.univ := duties_eq X (c, .cred)
  have he : (sched X).expect (kcell (c, .cred)) 0 = 19 := (expect_eq X (c, .cred)).trans rfl
  unfold owing credits
  iintro ⟨#HR, ⟨%T, -, Hat, #HT⟩, Hc, Hw, ⟨%W, HO⟩⟩ Hk
  ihave HI := (records_cell X K J (c, .cred)) $$ HR
  icases HI with ⟨#HI, -⟩
  ihave #Hlev := (records_lev X K J) $$ HR
  ihave #HS := (records_slot X K J (yn c, i)) $$ HR
  iapply (Rounds.wp_wait 𝒱₀ ER (sched X) (c : Thread nD τ) none (sm := .reg credS) (k' := 1) (κ := K (c, .cred))
      (wpE_semWait_eq 𝒱₀ (c : Thread nD τ) none Set.univ) (Set.mem_univ _) (cr := Finsupp.single i.val 1) (O := O) (W := W) {(SemLoc.reg credS, i.val)}
      (R := 0) (m := i.val) (T := T) (by rw [Util.total_single]) (image_single_subset (SemLoc.reg credS) i.val 1)) $$ [Hc HO Hat]
  · isplitr; · iexact HI
    isplitl [Hc]; · iexact Hc
    isplitl [HO]; · iexact HO
    isplitr; · iapply hlev; iexact Hlev
    iexact Hat
  iintro %S ⟨%hS, HO, Hat, Hpay⟩
  obtain ⟨hTS, -, hcard⟩ := hS
  have hpe : bigSep (S \ T) (fun d => (sched X).payload ((c : Thread nD τ), SemLoc.reg credS) 0 d) = bigSep (S \ T) (fun d => readUpTo (F := F) (yn c) d) :=
    bigSep_congr fun d _ => payload_eq X (c, .cred) d
  ihave #Hp := (Entails.of_eq hpe) $$ Hpay
  have hjoin : iprop(bigSep T (fun d => readUpTo (F := F) (yn c) d) ∗ bigSep (S \ T) (fun d => readUpTo (F := F) (yn c) d)) ⊢ bigSep S (fun d => readUpTo (F := F) (yn c) d) :=
    Entails.of_eq (bigSep_sdiff_split hTS (Φ := fun d => readUpTo (F := F) (yn c) d)).symm
  ihave #HSall := hjoin $$ [HT Hp]
  · isplitr; · iexact HT
    iexact Hp
  have hex : ∃ d ∈ S, i ≤ d := by
    by_contra hno
    have h1 : S.card ≤ i.val := by
      have hsub : S ⊆ Finset.Iio i := fun d hd => Finset.mem_Iio.2 (not_le.1 fun h => hno ⟨d, hd, h⟩)
      have := Finset.card_le_card hsub
      rw [Fin.card_Iio] at this
      exact this
    have h2 : (Finset.univ \ S : Finset (Fin 19)).card = 19 - S.card := by rw [← Finset.compl_eq_univ_sdiff, Finset.card_compl, Fintype.card_fin]
    have h3 : i.val + 1 + ((sched X).duties (kcell (c, .cred)) 0 \ S).card ≤ (sched X).expect (kcell (c, .cred)) 0 := hcard
    rw [hd, he, h2] at h3
    have := i.isLt
    omega
  obtain ⟨d, hdS, hid⟩ := hex
  have hel : bigSep S (fun d => readUpTo (F := F) (yn c) d) ⊢ released EK (yn c, i) 1 :=
    (bigSep_elim hdS).trans (by unfold readUpTo; exact bigSep_elim (s := Finset.univ.filter fun j : Fin 19 => j ≤ d) (Finset.mem_filter.2 ⟨Finset.mem_univ _, hid⟩))
  ihave #Hrel := hel $$ HSall
  imod (slot_take EK (ι := J (yn c, i)) (k := (yn c, i)) (S := passSlot (yn c, i)) (Es := Set.univ) (Set.mem_univ _) 1) $$ [Hw] with Hslot
  · isplitr; · iexact HS
    isplitr; · iexact Hrel
    iexact Hw
  iapply Hk
  isplitl [HO]; · iexists _; iexact HO
  isplitl [Hat]
  · iexists S
    isplitr; · ipureintro; rw [← hd]; exact hcard.trans he.le
    isplitl [Hat]; · iexact Hat
    iexact HSall
  iapply (Entails.of_eq (show passSlot (yn c, i) = outAny (F := F) (yn c) (own c) i by unfold passSlot; rw [pass_yn]))
  iexact Hslot

/-! ## The step -/

/-- The rows a sum is stored to, here or on the neighbour, hold it. -/
theorem own_sum (t c : Dev nD) (i : Fin 19) (fd : S32768x1024.Idx → F .f32) (ga : S2x1024x1024.Idx → F .f32)
    (hga : (aRows (chunk i) (par i)).view.read (Elt F) ga = fun j => total X c ((ownRows (chunk i) c).view.emb j)) (ht : t = c ∨ t = yn c) :
    ((ownRows (chunk i) c).view.loc (t : Thread nD τ) ↦[(ownRows (chunk i) c).view.set]{fullShare}
      (ownRows (chunk i) c).view.write (Elt F) fd ((aRows (chunk i) (par i)).view.read (Elt F) ga) Finset.univ : sProp 𝕄) = outAt t (own c) i (fin X t) :=
  own_written t c i fd (fin X t) _ fun j => by
    rw [hga]
    rcases ht with rfl | rfl
    · exact fin_own X i t j
    · exact fin_sent X i c j

/-- A chunk's part of its slot of the first buffer, through its view. -/
theorem aAt_eq (c : Dev nD) (q : PosShare TreeShare) (i : Fin 19) (f : S2x1024x1024.Idx → F .f32) :
    (((c : Thread nD τ).loc cc0_scratch0) ↦[slabSet i]{q} f : sProp 𝕄)
      = ((aRows (chunk i) (par i)).view.loc (c : Thread nD τ) ↦[(aRows (chunk i) (par i)).view.set]{q} f : sProp 𝕄) :=
  congrArg (fun S : Finset S2x1024x1024.Idx => ((((c : Thread nD τ).loc cc0_scratch0) ↦[S]{q} f) : sProp 𝕄)) (aRows_set i).symm

/-- The transfer of a sum to the neighbour along the second axis. -/
theorem send_sum (c : Dev nD) (i : Fin 19) (O : CellTallies nD τ sig ℕ) (ga : S2x1024x1024.Idx → F .f32)
    (hga : (aRows (chunk i) (par i)).view.read (Elt F) ga = fun j => total X c ((ownRows (chunk i) c).view.emb j))
    {h1 : (aRows (chunk i) (par i)).view.WordExact} {h2 : (ownRows (chunk i) c).view.WordExact} {hsc} {h3} {cont : PUnit → Prg F} {Q : PUnit → sProp 𝕄} :
    iprop(records X K J ∗ (((c : Thread nD τ).loc cc0_scratch0) ↦[slabSet i]{fullShare.right} ga) ∗ outAny (yn c) (own c) i
        ∗ dutyTok ER (kcell (c, .s2 i)) 0 0 ∗ dutyTok ER (kcell (yn c, .r2 i)) 0 0 ∗ owing c (O + tallyAt (kcell (yn c, .r2 i)) 0 (N i)))
      ⊢ iprop(((cred (tallyAt (kcell (c, .s2 i)) 0 (N i)) ∗ owing c O) -∗ run c (cont ⟨⟩) Q)
          -∗ run c (.op (.enqueueDma (aRows (chunk i) (par i)) (.remote (Dev.tc (yn c)) (ownRows (chunk i) c) (.dma (semS2 i)) hsc) (.dma (semR2 i)) h1 h2 h3) cont) Q) := by
  have hpay₁ : ((aRows (chunk i) (par i)).view.loc (c : Thread nD τ) ↦[(aRows (chunk i) (par i)).view.set]{fullShare.right} ga : sProp 𝕄)
      ⊢ (sched X).payload (kcell (c, .s2 i)) 0 0 := by
    rw [payload_eq, ← aAt_eq]
    show _ ⊢ aAny c fullShare.right i
    unfold aAny
    iintro H; iexists ga; iexact H
  have hpay₂ : ∀ fd : S32768x1024.Idx → F .f32, ((ownRows (chunk i) c).view.loc (yn c : Thread nD τ) ↦[(ownRows (chunk i) c).view.set]{fullShare}
      (ownRows (chunk i) c).view.write (Elt F) fd ((aRows (chunk i) (par i)).view.read (Elt F) ga) Finset.univ : sProp 𝕄)
      ⊢ (sched X).payload (kcell (yn c, .r2 i)) 0 0 := fun fd => by
    rw [payload_eq, own_sum X (yn c) c i fd ga hga (Or.inr rfl)]
    show _ ⊢ outAt (yn c) (pass (yn c)) i (fin X (yn c))
    rw [pass_yn]
  rw [outAny_eq]; unfold owing
  iintro ⟨#HR, Ha, ⟨%fd, Hd⟩, Ht1, Ht2, ⟨%W, HO⟩⟩ Hk
  ihave HI := (records_cell X K J (c, .s2 i)) $$ HR
  icases HI with ⟨#HI1, #Hr1⟩
  ihave HI := (records_cell X K J (yn c, .r2 i)) $$ HR
  icases HI with ⟨#HI2, #Hr2⟩
  ihave Ha := (Entails.of_eq (aAt_eq c fullShare.right i ga)) $$ Ha
  ihave Hd := (Entails.of_eq (ownAt_eq (yn c) c i fd)) $$ Hd
  iapply (Rounds.wp_send_pointsTo 𝒱₀ ER (sched X) (c : Thread nD τ) none (κ₁ := K (c, .s2 i)) (κ₂ := K (yn c, .r2 i))
      (c' := (yn c : Thread nD τ)) (src := aRows (chunk i) (par i)) (dst := ownRows (chunk i) c) (sS := .dma (semS2 i)) (sem := .dma (semR2 i))
      (q := fullShare.right) (fs := ga) (r₁ := 0) (r₂ := 0) (d₁ := 0) (d₂ := 0) (fd := fd)
      (duty_zero X c (.s2 i) rfl) (duty_zero X (yn c) (.r2 i) rfl) 0 0 (N i) (amount_own c i _) (amount_eq X (c, .s2 i) 0) (amount_eq X (yn c, .r2 i) 0) O
      (O₀ := O + tallyAt (kcell (yn c, .r2 i)) 0 (N i)) rfl (W := W) hpay₁ (hpay₂ fd)) $$ [Ha Hd HO Ht1 Ht2]
  · isplitr; · iexact HI1
    isplitr; · iexact HI2
    isplitl [Ha]; · iexact Ha
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

end Cert.KernelIdeal.TwoPhase

end
-- ==== Proof.Sum.lean ====
/-
# A summing step, and the three loops

The step of one chunk from what it takes to what it leaves; the loops by one rule for a run of nineteen indices.
-/
module

public import proofs.«01_k».proof.Proof.Step

@[expose] public section

set_option synthInstance.maxSize 4096

noncomputable section

namespace Cert.KernelIdeal.TwoPhase

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers
open Cert.KernelIdeal.Gen

variable {F : FTy → Type} [FloatOps F]

local notation "𝕄" => MT nD τ sig ℕ (Elt F) ℕ UU ℕ

variable (X : Dev nD → S32768x1024.Idx → F .f32) (K : Dev nD × Kind → ℕ) (J : Dev nD × Fin 19 → ℕ)

/-- What the step of a chunk takes: the receive cell's position and credit, the credit it waits for, the tokens of the
    duties it pays, its side of the two releases, the rows it writes, and its half of its rows of the argument. -/
def stepIn (c : Dev nD) (i : Fin 19) : sProp 𝕄 :=
  iprop((atPos ER (kcell (c, .r1 i)) 0 ∅ 0 ∗ cred (tallyAt (kcell (c, .r1 i)) 0 (N i))) ∗ cred (tallyAt (kcell (c, .cred)) i.val 1)
    ∗ (dutyTok ER (kcell (c, .s2 i)) 0 0 ∗ dutyTok ER (kcell (yn c, .r2 i)) 0 0 ∗ dutyTok ER (kcell (yn c, .cred)) 0 i)
    ∗ (readerAt EK (c, i) 0 ∗ writeTok EK (yn c, i) 1) ∗ outAny c (own c) i ∗ atPos ER (kcell (c, .s2 i)) 0 ∅ 0 ∗ xAt X c fullShare.left i)
/-- What it leaves of it. -/
def stepOut (c : Dev nD) (i : Fin 19) : sProp 𝕄 := iprop(semVal (kcell (c, .r1 i)) 0 ∗ xAt X c fullShare.left i)
/-- The second buffer, holding anything. -/
def bAny (c : Dev nD) : sProp 𝕄 := iprop(∃ f, ((c : Thread nD τ).loc cc0_scratch1) ↦{fullShare} f)

/-- Nobody holds the rows of a chunk twice. -/
theorem passSlot_false (y : Dev nD × Fin 19) : iprop(passSlot (F := F) y ∗ passSlot y) ⊢ (False : sProp 𝕄) :=
  slot_slot_false (rowSet_nonempty (sz_pos y.2) (by have := st_sz y.2; have := pass_le y.1; omega))

set_option maxHeartbeats 1000000 in
/-- The end of a step: a slot holding the sum is stored to this device's rows and, once the neighbour's credit is here,
    sent to the neighbour's. -/
theorem store_send (c : Dev nD) (i : Fin 19) (O : CellTallies nD τ sig ℕ) (hO : Above (3 + i.val) (O + tallyAt (kcell (yn c, .r2 i)) 0 (N i)))
    (fo : S32768x1024.Idx → F .f32) (ga : S2x1024x1024.Idx → F .f32)
    (hga : (aRows (chunk i) (par i)).view.read (Elt F) ga = fun j => total X c ((ownRows (chunk i) c).view.emb j))
    {h1 h1' : (aRows (chunk i) (par i)).view.WordExact} {h2 h2' : (ownRows (chunk i) c).view.WordExact} {hsc} {h3} {h3'} {cont : PUnit → Prg F} {Q : PUnit → sProp 𝕄} :
    iprop(records X K J ∗ (((c : Thread nD τ).loc cc0_scratch0) ↦[plane (par i)]{fullShare} ga) ∗ outAt c (own c) i fo
        ∗ (semVal ((c : Thread nD τ), SemLoc.dma (semO i)) 0 ∗ slotSems c (par i)) ∗ (credits c i.val ∗ cred (tallyAt (kcell (c, .cred)) i.val 1) ∗ writeTok EK (yn c, i) 1)
        ∗ (dutyTok ER (kcell (c, .s2 i)) 0 0 ∗ dutyTok ER (kcell (yn c, .r2 i)) 0 0 ∗ atPos ER (kcell (c, .s2 i)) 0 ∅ 0)
        ∗ owing c (O + tallyAt (kcell (yn c, .r2 i)) 0 (N i)))
      ⊢ iprop(((flying X c i ∗ credits c (i.val + 1) ∗ owing c O) -∗ run c (cont ⟨⟩) Q)
          -∗ run c (.op (.enqueueDma (aRows (chunk i) (par i)) (.here (ownRows (chunk i) c)) (.dma (semO i)) h1 h2 h3) fun _ =>
              .op (.semWait credS ((1 : ℕ) : ℤ)) fun _ =>
              .op (.enqueueDma (aRows (chunk i) (par i)) (.remote (Dev.tc (yn c)) (ownRows (chunk i) c) (.dma (semS2 i)) hsc) (.dma (semR2 i)) h1' h2' h3') cont) Q) := by
  iintro ⟨#HR, Ha, Ho, ⟨HzO, Hss⟩, ⟨Hcr, Hcc, Hwt⟩, ⟨Ht2, Htr, Hat2⟩, HO⟩ Hk
  ihave Ha := (pointsTo_split_subset (slabSet_subset i)).1 $$ Ha
  icases Ha with ⟨Ha, Hrest⟩
  ihave Ha := (pointsTo_share (PosShare.mem_left_op_right fullShare)).1 $$ Ha
  icases Ha with ⟨HaL, HaR⟩
  ihave HaL := (Entails.of_eq (aAt_eq c fullShare.left i ga)) $$ HaL
  ihave Ho := (Entails.of_eq (ownAt_eq c c i fo)) $$ Ho
  iapply (wp_dmaLocal EC 𝒱₀ (c : Thread nD τ) none (src := aRows (chunk i) (par i)) (dst := ownRows (chunk i) c) (sm := .dma (semO i)) (q := fullShare.left) (fs := ga)
      (Sd := (ownRows (chunk i) c).view.set) (fd := fo) 0 (N i) rfl (N_pos i) (Finset.Subset.refl _)) $$ [HaL Ho HzO]
  · isplitl [HaL]; · iexact HaL
    isplitl [Ho]; · iexact Ho
    iexact HzO
  iintro Hfl
  have hstores : iprop(((ownRows (chunk i) c).view.loc (c : Thread nD τ) ↦[(ownRows (chunk i) c).view.set]{fullShare}
        (ownRows (chunk i) c).view.write (Elt F) fo ((aRows (chunk i) (par i)).view.read (Elt F) ga) Finset.univ)
      ∗ ((aRows (chunk i) (par i)).view.loc (c : Thread nD τ) ↦[(aRows (chunk i) (par i)).view.set]{fullShare.left} ga)) ⊢ (stores X c i : sProp 𝕄) := by
    rw [own_sum X c c i fo ga hga (Or.inl rfl), ← aAt_eq]
    unfold stores aAny
    iintro ⟨H1, H2⟩
    isplitl [H1]; · iexact H1
    iexists ga; iexact H2
  ihave Hfl := (Flight_mono EC (c : Thread nD τ) hstores) $$ Hfl
  iapply (take_credit X K J c i hO) $$ [Hcr Hcc Hwt HO]
  · isplitr; · iexact HR
    isplitl [Hcr]; · iexact Hcr
    isplitl [Hcc]; · iexact Hcc
    isplitl [Hwt]; · iexact Hwt
    iexact HO
  iintro ⟨HO, Hcr, Hown⟩
  iapply (send_sum X K J c i O ga hga) $$ [HaR Hown Ht2 Htr HO]
  · isplitr; · iexact HR
    isplitl [HaR]; · iexact HaR
    isplitl [Hown]; · iexact Hown
    isplitl [Ht2]; · iexact Ht2
    isplitl [Htr]; · iexact Htr
    iexact HO
  iintro ⟨Hc2, HO⟩
  iapply Hk
  isplitr [Hcr HO]
  · unfold flying
    isplitl [Hat2 Hc2]
    · isplitl [Hat2]; · iexact Hat2
      iexact Hc2
    isplitl [Hfl]; · iexact Hfl
    isplitl [Hrest]
    · iexists ga; iexact Hrest
    iexact Hss
  isplitl [Hcr]; · iexact Hcr
  iexact HO

set_option maxHeartbeats 1000000 in
/-- The step of chunk `i`. -/
theorem sum_spec (c : Dev nD) (i : Fin 19) :
    iprop(records X K J ∗ stepIn X c i ∗ free c (par i) ∗ owing c (owedY c i.val) ∗ bAny c ∗ credits c i.val ∗ readFirst c i.val)
      ⊢ run c (sumChunk chunk c i) (fun _ => iprop(stepOut X c i ∗ flying X c i ∗ owing c (owedY c (i.val + 1)) ∗ bAny c ∗ credits c (i.val + 1)
          ∗ readFirst c (i.val + 1))) := by
  have ha0 : Above 0 (owedY c i.val) := above_owedY c _ (by omega) (by decide)
  have ha2 : Above 2 (owedY c i.val) := above_owedY c _ (by omega) (by decide)
  have ha3 : Above (3 + i.val) (owedY c (i.val + 1) + tallyAt (kcell (yn c, .r2 i)) 0 (N i)) :=
    (above_owedY c _ (by omega) (by omega)).add (Above.tally _ _ _ (by decide) (by show 3 + i.val < 100; omega))
  have hlA : (levAts L lv : sProp 𝕄) ⊢ MayWait (c : Thread nD τ) (.dma (semA i)) 0 (owedY c i.val) :=
    mayWait c (.dma (semA i)) 0 0 (by decide) (by rw [kind_semA]; exact le_rfl) ha0
  have hlB : (levAts L lv : sProp 𝕄) ⊢ MayWait (c : Thread nD τ) (.dma (semB i)) 0 (owedY c i.val) :=
    mayWait c (.dma (semB i)) 0 0 (by decide) (by rw [kind_semB]; exact le_rfl) ha0
  have hword : (1#32 : BitVec 32).toInt = ((1 : ℕ) : ℤ) := rfl
  unfold stepIn free slotSems bAny
  rw [outAny_eq]
  iintro ⟨#HR, ⟨⟨Hat1, Hc1⟩, Hcc, ⟨Ht2, Htr, Htc⟩, ⟨Hrd, Hwt⟩, ⟨%fo, Hown⟩, Hat2, Hx⟩, ⟨⟨%fa, Ha⟩, HzO, HzA, HzB⟩, HO, ⟨%fb, Hb⟩, Hcr, #Hread⟩
  ihave #Hlev := (records_lev X K J) $$ HR
  unfold sumChunk
  simp only [semSignalWord, semWaitWord, Prog.lift, Prog.bind_op, Prog.bind_ret, Prog.pure_eq_ret, hword]
  -- its rows of the argument start into the slot
  ihave Hx := (Entails.of_eq (xAt_eq X c fullShare.left i)) $$ Hx
  iapply (wp_dmaLocal EC 𝒱₀ (c : Thread nD τ) none (src := xRows (chunk i) c) (dst := aRows (chunk i) (par i)) (sm := .dma (semA i)) (q := fullShare.left) (fs := X c)
      (Sd := plane (par i)) (fd := fa) 0 (N i) rfl (N_pos i) (by rw [aRows_set]; exact slabSet_subset i)) $$ [Hx Ha HzA]
  · isplitl [Hx]; · iexact Hx
    isplitl [Ha]; · iexact Ha
    iexact HzA
  iintro HfA
  -- the received rows are here
  iapply (wait_cell X K J c (.r1 i) (semR1 i) rfl rfl 2 (le_refl 2) ha2 (srcw := xRows (chunk i) c) (dstw := passRows (chunk i) c) rfl) $$ [Hat1 Hc1 HO]
  · isplitr; · iexact HR
    isplitl [Hat1]; · iexact Hat1
    isplitl [Hc1]; · iexact Hc1
    iexact HO
  iintro ⟨HO, Hin, Hz1⟩
  ihave Hin := (Entails.of_eq ((show kPay X c (some (.r1 i)) 0 = outAt c (pass c) i (mid X c) from rfl).trans (passAt_eq c c i (mid X c)))) $$ Hin
  -- and start into the other buffer
  iapply (wp_dmaLocal EC 𝒱₀ (c : Thread nD τ) none (src := passRows (chunk i) c) (dst := bRows (chunk i) (par i)) (sm := .dma (semB i)) (q := fullShare) (fs := mid X c)
      (Sd := Finset.univ) (fd := fb) 0 (N i) rfl (N_pos i) (Finset.subset_univ _)) $$ [Hin Hb HzB]
  · isplitl [Hin]; · iexact Hin
    isplitl [Hb]; · iexact Hb
    iexact HzB
  iintro HfB
  unfold owing
  icases HO with ⟨%W, HO⟩
  iapply (wp_waitLocalO EC 𝒱₀ (c : Thread nD τ) none (dstw := aRows (chunk i) (par i)) 0 (N := N i) rfl (O := owedY c i.val) (W := W)) $$ [HfA HO]
  · isplitl [HfA]; · iexact HfA
    isplitl [HO]; · iexact HO
    iapply hlA; iexact Hlev
  iintro ⟨⟨Ha, Hx⟩, HzA, HO⟩
  iapply (wp_waitLocalO EC 𝒱₀ (c : Thread nD τ) none (dstw := bRows (chunk i) (par i)) 0 (N := N i) rfl (O := owedY c i.val)) $$ [HfB HO]
  · isplitl [HfB]; · iexact HfB
    isplitl [HO]; · iexact HO
    iapply hlB; iexact Hlev
  iintro ⟨⟨Hb, Hin⟩, HzB, HO⟩
  -- the received rows are released, and the credit given
  ihave #HS := (records_slot X K J (c, i)) $$ HR
  imod (slot_release EK (ι := J (c, i)) (k := (c, i)) (S := passSlot (F := F) (c, i)) (Es := Set.univ) (Set.mem_univ _) (passSlot_false (c, i)) 0) $$ [Hrd Hin] with ⟨-, #Hrel⟩
  · isplitr; · iexact HS
    isplitl [Hrd]; · iexact Hrd
    ihave Hin := (Entails.of_eq (passAt_eq c c i (mid X c)).symm) $$ Hin
    unfold passSlot; rw [outAny_eq]
    iexists _; iexact Hin
  ihave #Hread' := (Entails.of_eq (readFirst_succ (F := F) c i).symm) $$ [Hread Hrel]
  · isplitr; · iexact Hrel
    iexact Hread
  iapply (give_credit X K J c i (owedY c (i.val + 1) + tallyAt (kcell (yn c, .r2 i)) 0 (N i))) $$ [HO Htc]
  · isplitr; · iexact HR
    isplitl [HO]
    · unfold owing; iexists _; rw [← owedY_peel]; iexact HO
    isplitl [Htc]; · iexact Htc
    iapply (Entails.of_eq (readFirst_upTo (F := F) c i)); iexact Hread'
  iintro HO
  -- the loads, the sum and the store
  have hsa : (aM.access (slabRect (chunk i) (par i))).set ⊆ plane (par i) :=
    (View.set_slice_whole _ _).subset.trans (slabSet_subset i)
  iapply (wp_load_rect 𝒱₀ (c : Thread nD τ) none Set.univ (m := aM) hsa) $$ Ha; iintro Ha
  iapply (wp_load_rect 𝒱₀ (c : Thread nD τ) none Set.univ (m := bM) (Finset.subset_univ _)) $$ Hb; iintro Hb
  iapply (wp_load_rect 𝒱₀ (c : Thread nD τ) none Set.univ (m := aM) hsa) $$ Ha; iintro Ha
  iapply (wp_store 𝒱₀ (c : Thread nD τ) none Set.univ (m := aM) (r := slabRect (chunk i) (par i)) (Mk := Finset.univ) hsa) $$ Ha; iintro Ha
  iapply (store_send X K J c i (owedY c (i.val + 1)) ha3 fo _ (stored X i c fa fb)) $$ [Ha Hown HzO HzA HzB Hcr Hcc Hwt Ht2 Htr Hat2 HO]
  · isplitr; · iexact HR
    isplitl [Ha]; · iexact Ha
    isplitl [Hown]; · iexact Hown
    isplitl [HzO HzA HzB]
    · isplitl [HzO]; · iexact HzO
      unfold slotSems
      isplitl [HzA]; · iexact HzA
      iexact HzB
    isplitl [Hcr Hcc Hwt]
    · isplitl [Hcr]; · iexact Hcr
      isplitl [Hcc]; · iexact Hcc
      iexact Hwt
    isplitl [Ht2 Htr Hat2]
    · isplitl [Ht2]; · iexact Ht2
      isplitl [Htr]; · iexact Htr
      iexact Hat2
    iexact HO
  iintro ⟨Hfl, Hcr, HO⟩
  unfold run; rw [wp_ret]
  imodintro
  unfold stepOut owing
  isplitl [Hz1 Hx]
  · isplitl [Hz1]; · iexact Hz1
    iapply (Entails.of_eq (xAt_eq X c fullShare.left i).symm); iexact Hx
  isplitl [Hfl]; · iexact Hfl
  isplitl [HO]; · iexact HO
  isplitl [Hb]
  · iexists _; iexact Hb
  isplitl [Hcr]; · iexact Hcr
  iexact Hread'

end Cert.KernelIdeal.TwoPhase

end
-- ==== Proof.Loops.lean ====
/-
# The three loops

One rule for a run of the nineteen indices, and the three loops by it.
-/
module

public import proofs.«01_k».proof.Proof.Sum

@[expose] public section

set_option synthInstance.maxSize 4096

noncomputable section

namespace Cert.KernelIdeal.TwoPhase

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers
open Cert.KernelIdeal.Gen

variable {F : FTy → Type} [FloatOps F]

local notation "𝕄" => MT nD τ sig ℕ (Elt F) ℕ UU ℕ

variable (X : Dev nD → S32768x1024.Idx → F .f32) (K : Dev nD × Kind → ℕ) (J : Dev nD × Fin 19 → ℕ)

/-! ## A run of the indices -/

/-- The first of the indices left, apart. -/
theorem rem_sep (A : Fin 19 → sProp 𝕄) (i : Fin 19) : bigSep (rem i.val) A = iprop(A i ∗ bigSep (rem (i.val + 1)) A) := by
  rw [rem_peel, bigSep_insert (not_mem_rem i)]; rfl

/-- From index `19 - k` on. -/
theorem run_from (c : Dev nD) (f : Fin 19 → Prg F) (A B : Fin 19 → sProp 𝕄) (R : ℕ → sProp 𝕄)
    (h : ∀ i, iprop(A i ∗ R i.val) ⊢ run c (f i) (fun _ => iprop(B i ∗ R (i.val + 1)))) :
    ∀ (k : ℕ) (hk : k ≤ 19), iprop(bigSep (rem (19 - k)) A ∗ R (19 - k)) ⊢ run c (runLast f k hk) (fun _ => iprop(bigSep (rem (19 - k)) B ∗ R 19))
  | 0, _ => by
    unfold runLast
    rw [Prog.pure_eq_ret, show 19 - 0 = 19 from rfl, rem_end, bigSep_empty, bigSep_empty]
    unfold run; rw [wp_ret]
    iintro H; imodintro; iexact H
  | k + 1, hk => by
    have ih := run_from c f A B R h k (by omega)
    obtain ⟨i, hi⟩ : ∃ i : Fin 19, i = ⟨19 - (k + 1), by omega⟩ := ⟨_, rfl⟩
    have hv : i.val = 19 - (k + 1) := by rw [hi]
    have hs : i.val + 1 = 19 - k := by omega
    show _ ⊢ run c (f ⟨19 - (k + 1), _⟩ >>= fun _ => runLast f k _) _
    rw [← hi, ← hv, rem_sep, rem_sep, hs]
    iintro ⟨⟨HA, HAs⟩, HR⟩
    unfold run
    rw [wp_bind]
    ihave H := (h i) $$ [HA HR]
    · isplitl [HA]; · iexact HA
      iexact HR
    rw [hs]
    iapply (wp_wand (Fr := frame) (wpE := wpE (defs₀ (F := F)) 𝒱₀ (c : Thread nD τ) none)) $$ H
    iintro %a ⟨HB, HR⟩
    ihave H := ih $$ [HAs HR]
    · isplitl [HAs]; · iexact HAs
      iexact HR
    iapply (wp_wand (Fr := frame) (wpE := wpE (defs₀ (F := F)) 𝒱₀ (c : Thread nD τ) none)) $$ H
    iintro %b ⟨HBs, HR⟩
    isplitr [HR]
    · isplitl [HB]; · iexact HB
      iexact HBs
    iexact HR

/-- A run of all the indices: what each takes and leaves, and what goes from one to the next. -/
theorem run_all (c : Dev nD) (f : Fin 19 → Prg F) (A B : Fin 19 → sProp 𝕄) (R : ℕ → sProp 𝕄)
    (h : ∀ i, iprop(A i ∗ R i.val) ⊢ run c (f i) (fun _ => iprop(B i ∗ R (i.val + 1)))) :
    iprop(bigSep Finset.univ A ∗ R 0) ⊢ run c (runLast f 19 le_rfl) (fun _ => iprop(bigSep Finset.univ B ∗ R 19)) := by
  have := run_from c f A B R h 19 le_rfl
  rwa [show 19 - 19 = 0 from rfl, rem_zero] at this

/-! ## Sending -/

/-- What the transfer of a chunk of the argument takes. -/
def sendIn (c : Dev nD) (i : Fin 19) : sProp 𝕄 :=
  iprop(xAt X c fullShare.right i ∗ outAny (xn c) (pass c) i ∗ dutyTok ER (kcell (c, .s1 i)) 0 0 ∗ dutyTok ER (kcell (xn c, .r1 i)) 0 0)

/-- The sending loop. -/
theorem send_loop (c : Dev nD) (Oy : CellTallies nD τ sig ℕ) :
    iprop(records X K J ∗ bigSep Finset.univ (sendIn X c) ∗ owing c (Oy + owedX c 0))
      ⊢ run c (runLast (sendX chunk c) 19 le_rfl) (fun _ => iprop(bigSep Finset.univ (fun i => cred (tallyAt (kcell (c, .s1 i)) 0 (N i))) ∗ owing c Oy)) := by
  have h := run_all (F := F) c (sendX chunk c) (sendIn X c) (fun i => cred (tallyAt (kcell (c, .s1 i)) 0 (N i)))
    (fun k => iprop(records X K J ∗ owing c (Oy + owedX c k))) fun i => by
      iintro ⟨HA, #HR, HO⟩
      ihave H := (send_x X K J c i Oy) $$ [HA HO]
      · isplitr; · iexact HR
        isplitl [HA]; · unfold sendIn; iexact HA
        iexact HO
      iapply (wp_wand (Fr := frame) (wpE := wpE (defs₀ (F := F)) 𝒱₀ (c : Thread nD τ) none)) $$ H
      iintro %a ⟨HC, HO⟩
      isplitl [HC]; · iexact HC
      isplitr; · iexact HR
      iexact HO
  iintro ⟨#HR, HA, HO⟩
  ihave H := h $$ [HA HO]
  · isplitl [HA]; · iexact HA
    isplitr; · iexact HR
    iexact HO
  iapply (wp_wand (Fr := frame) (wpE := wpE (defs₀ (F := F)) 𝒱₀ (c : Thread nD τ) none)) $$ H
  rw [owedX_end, add_zero]
  iintro %a ⟨HC, -, HO⟩
  isplitl [HC]; · iexact HC
  iexact HO

/-! ## Summing -/

/-- The state of a slot: before the second chunk from now takes it, it is free, or full with the chunk two before. -/
def pend (c : Dev nD) (n : ℕ) : sProp 𝕄 :=
  if h : 2 ≤ n ∧ n < 21 then flying X c ⟨n - 2, by omega⟩ else free c ⟨n % 2, Nat.mod_lt _ (by decide)⟩

/-- What a drained chunk leaves. -/
def drained (c : Dev nD) (i : Fin 19) : sProp 𝕄 := iprop(outAt c (own c) i (fin X c) ∗ semVal (kcell (c, .s2 i)) 0)

/-- What goes from step to step. -/
def between (c : Dev nD) (k : ℕ) : sProp 𝕄 :=
  iprop(records X K J ∗ owing c (owedY c k) ∗ bAny c ∗ (pend X c k ∗ pend X c (k + 1)) ∗ credits c k ∗ readFirst c k ∗ bigSep (before (k - 2)) (drained X c))

/-- Two chunks on, a slot waits for the transfers of this one. -/
theorem pend_next (c : Dev nD) (i : Fin 19) : pend X c (i.val + 2) = flying X c i := by
  unfold pend
  rw [dif_pos ⟨by omega, by have := i.isLt; omega⟩]; rfl
/-- The first two chunks find their slots free. -/
theorem pend_early (c : Dev nD) (i : Fin 19) (h : ¬ 2 ≤ i.val) : pend X c i.val = free c (par i) := by
  unfold pend
  rw [dif_neg fun h' => h h'.1]

/-- A step drains its slot, from the third on, and then sums its chunk. -/
theorem step_eq (c : Dev nD) (i : Fin 19) :
    step (F := F) chunk c i = (if 2 ≤ i.val then drain chunk c ⟨i.val - 2, by omega⟩ else pure ⟨⟩) >>= fun _ => sumChunk chunk c i := by
  unfold step
  by_cases h : 2 ≤ i.val
  · rw [if_pos h, if_pos h]
  · rw [if_neg h, if_neg h]; rfl

/-- The slot of a step, drained if it was full. -/
theorem step_drain (c : Dev nD) (i : Fin 19) :
    iprop(records X K J ∗ pend X c i.val ∗ owing c (owedY c i.val) ∗ bigSep (before (i.val - 2)) (drained X c))
      ⊢ run c (if 2 ≤ i.val then drain chunk c ⟨i.val - 2, by omega⟩ else pure ⟨⟩)
          (fun _ => iprop(free c (par i) ∗ owing c (owedY c i.val) ∗ bigSep (before (i.val + 1 - 2)) (drained X c))) := by
  by_cases h : 2 ≤ i.val
  · rw [if_pos h]
    obtain ⟨j, hj⟩ : ∃ j : Fin 19, j = ⟨i.val - 2, by omega⟩ := ⟨_, rfl⟩
    have hji : j.val + 2 = i.val := by rw [hj]; show i.val - 2 + 2 = i.val; omega
    rw [← hj, show i.val - 2 = j.val by omega, show i.val + 1 - 2 = j.val + 1 by omega, before_succ, bigSep_insert (not_mem_before j), ← hji, pend_next,
      show par i = par j from Fin.ext (by show i.val % 2 = j.val % 2; omega)]
    iintro ⟨#HR, Hf, HO, HD⟩
    ihave H := (drain_spec X K J c j (O := owedY c (j.val + 2)) (above_owedY c _ (by omega) (by decide))) $$ [Hf HO]
    · isplitr; · iexact HR
      isplitl [Hf]; · iexact Hf
      iexact HO
    iapply (wp_wand (Fr := frame) (wpE := wpE (defs₀ (F := F)) 𝒱₀ (c : Thread nD τ) none)) $$ H
    iintro %a ⟨Hd, Hf, HO⟩
    isplitl [Hf]; · iexact Hf
    isplitl [HO]; · iexact HO
    iapply (show iprop(drained X c j ∗ bigSep (before j.val) (drained X c)) ⊢ BI.sep (drained X c j) (bigSep (before j.val) (drained X c)) from Entails.refl _)
    isplitl [Hd]; · unfold drained; iexact Hd
    iexact HD
  · rw [if_neg h, Prog.pure_eq_ret, pend_early X c i h, show i.val - 2 = 0 by omega, show i.val + 1 - 2 = 0 by omega]
    unfold run; rw [wp_ret]
    iintro ⟨-, H⟩; imodintro; iexact H

/-- One step of the summing loop. -/
theorem step_spec (c : Dev nD) (i : Fin 19) :
    iprop(stepIn X c i ∗ between X K J c i.val) ⊢ run c (step chunk c i) (fun _ => iprop(stepOut X c i ∗ between X K J c (i.val + 1))) := by
  rw [step_eq]
  unfold between run
  rw [wp_bind]
  iintro ⟨HA, #HR, HO, Hb, ⟨Hp, Hp'⟩, Hcr, Hrd, HD⟩
  ihave H := (step_drain X K J c i) $$ [Hp HO HD]
  · isplitr; · iexact HR
    isplitl [Hp]; · iexact Hp
    isplitl [HO]; · iexact HO
    iexact HD
  iapply (wp_wand (Fr := frame) (wpE := wpE (defs₀ (F := F)) 𝒱₀ (c : Thread nD τ) none)) $$ H
  iintro %a ⟨Hf, HO, HD⟩
  ihave H := (sum_spec X K J c i) $$ [HA Hf HO Hb Hcr Hrd]
  · isplitr; · iexact HR
    isplitl [HA]; · iexact HA
    isplitl [Hf]; · iexact Hf
    isplitl [HO]; · iexact HO
    isplitl [Hb]; · iexact Hb
    isplitl [Hcr]; · iexact Hcr
    iexact Hrd
  iapply (wp_wand (Fr := frame) (wpE := wpE (defs₀ (F := F)) 𝒱₀ (c : Thread nD τ) none)) $$ H
  iintro %b ⟨Ho, Hfl, HO, Hb, Hcr, Hrd⟩
  isplitl [Ho]; · iexact Ho
  isplitr; · iexact HR
  isplitl [HO]; · iexact HO
  isplitl [Hb]; · iexact Hb
  isplitl [Hfl Hp']
  · isplitl [Hp']; · iexact Hp'
    rw [show i.val + 1 + 1 = i.val + 2 from rfl, pend_next]; iexact Hfl
  isplitl [Hcr]; · iexact Hcr
  isplitl [Hrd]; · iexact Hrd
  iexact HD

/-! ## Finishing -/

/-- What the last waits of a chunk take, -/
def finishIn (c : Dev nD) (i : Fin 19) : sProp 𝕄 :=
  iprop((atPos ER (kcell (c, .s1 i)) 0 ∅ 0 ∗ cred (tallyAt (kcell (c, .s1 i)) 0 (N i))) ∗ (atPos ER (kcell (c, .r2 i)) 0 ∅ 0 ∗ cred (tallyAt (kcell (c, .r2 i)) 0 (N i))))
/-- and what they leave. -/
def finishOut (c : Dev nD) (i : Fin 19) : sProp 𝕄 :=
  iprop((xAt X c fullShare.right i ∗ semVal (kcell (c, .s1 i)) 0) ∗ (outAt c (pass c) i (fin X c) ∗ semVal (kcell (c, .r2 i)) 0))

/-- The last waits of a chunk. -/
theorem finish_spec (c : Dev nD) (i : Fin 19) :
    iprop(finishIn (F := F) c i ∗ records X K J ∗ owing c 0) ⊢ run c (finish chunk c i) (fun _ => iprop(finishOut X c i ∗ records X K J ∗ owing c 0)) := by
  unfold finishIn finish
  simp only [Prog.lift, Prog.bind_op, Prog.bind_ret, Prog.pure_eq_ret]
  iintro ⟨⟨⟨Hat, Hc⟩, ⟨Hat', Hc'⟩⟩, #HR, HO⟩
  iapply (wait_cell X K J c (.s1 i) (semS1 i) rfl rfl 0 (le_refl 0) (Above.zero 0) (srcw := passRows (chunk i) c) (dstw := xRows (chunk i) c) rfl) $$ [Hat Hc HO]
  · isplitr; · iexact HR
    isplitl [Hat]; · iexact Hat
    isplitl [Hc]; · iexact Hc
    iexact HO
  iintro ⟨HO, Hx, Hz⟩
  iapply (wait_cell X K J c (.r2 i) (semR2 i) rfl rfl 100 (le_refl 100) (Above.zero 100) (srcw := aRows (chunk i) (par i)) (dstw := ownRows (chunk i) c) rfl) $$ [Hat' Hc' HO]
  · isplitr; · iexact HR
    isplitl [Hat']; · iexact Hat'
    isplitl [Hc']; · iexact Hc'
    iexact HO
  iintro ⟨HO, Ho, Hz'⟩
  unfold run; rw [wp_ret]; imodintro
  unfold finishOut
  isplitr [HO]
  · isplitl [Hx Hz]
    · isplitl [Hx]; · iapply (Entails.of_eq (show kPay X c (some (.s1 i)) 0 = xAt X c fullShare.right i from rfl)); iexact Hx
      iexact Hz
    isplitl [Ho]; · iapply (Entails.of_eq (show kPay X c (some (.r2 i)) 0 = outAt c (pass c) i (fin X c) from rfl)); iexact Ho
    iexact Hz'
  isplitr; · iexact HR
  iexact HO

end Cert.KernelIdeal.TwoPhase

end
-- ==== Proof.Body.lean ====
/-
# The body of the kernel

The handshake, the three loops and the two drains: from what a device is dealt to its whole result.
-/
module

public import proofs.«01_k».proof.Proof.Loops

@[expose] public section

set_option synthInstance.maxSize 4096

noncomputable section

namespace Cert.KernelIdeal.TwoPhase

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers
open Cert.KernelIdeal.Gen

variable {F : FTy → Type} [FloatOps F]

local notation "𝕄" => MT nD τ sig ℕ (Elt F) ℕ UU ℕ

variable (X : Dev nD → S32768x1024.Idx → F .f32) (K : Dev nD × Kind → ℕ) (J : Dev nD × Fin 19 → ℕ)

/-! ## The handshake -/

/-- A signal to a neighbour's barrier cell. -/
theorem greet (c t : Dev nD) (d : Fin 19) (hd : d ∈ kDuties (some .bar)) (O : CellTallies nD τ sig ℕ) {cont : PUnit → Prg F} {Q : PUnit → sProp 𝕄} :
    iprop(records X K J ∗ owing c (O + tallyAt (kcell (t, .bar)) 0 1) ∗ dutyTok ER (kcell (t, .bar)) 0 d ∗ kPay X t (some .bar) d)
      ⊢ iprop((owing c O -∗ run c (cont ⟨⟩) Q)
          -∗ run c (.op (.semSignal (t : Thread nD τ) barS ((1 : ℕ) : ℤ)) cont) Q) := by
  have hpay : (sched X).payload ((t : Thread nD τ), SemLoc.reg barS) 0 d = kPay X t (some .bar) d := payload_eq X (t, .bar) d
  unfold owing
  iintro ⟨#HR, ⟨%W, HO⟩, Ht, Hp⟩ Hk
  ihave HI := (records_cell X K J (t, .bar)) $$ HR
  icases HI with ⟨#HI, #Hr⟩
  iapply (Rounds.wp_signal 𝒱₀ ER (sched X) (c : Thread nD τ) none (dst := (t : Thread nD τ)) (sem := barS) (κ := K (t, .bar)) (r := 0)
      (d := d) (k' := 1) (by have h := duties_eq X (t, .bar); exact h ▸ hd) (amount_eq X (t, .bar) d) 0 O rfl (W := W))
    $$ [HO Ht Hp]
  · isplitr; · iexact HI
    isplitl [HO]; · iexact HO
    isplitl [Ht]; · iexact Ht
    isplitl [Hp]
    · iapply (Entails.of_eq hpay.symm); iexact Hp
    iexact Hr
  iintro HO
  iapply Hk
  iexists W; iexact HO

/-- The wait for both neighbours: the passed half of the neighbour along the first axis is this device's to write. -/
theorem meet (c : Dev nD) {O : CellTallies nD τ sig ℕ} (hO : Above 1 O) {cont : PUnit → Prg F} {Q : PUnit → sProp 𝕄} :
    iprop(records X K J ∗ atPos ER (kcell (c, .bar)) 0 ∅ 0 ∗ cred (tallyAt (kcell (c, .bar)) 0 2) ∗ owing c O)
      ⊢ iprop(((owing c O ∗ lent (xn c) ∗ semVal (kcell (c, .bar)) 0) -∗ run c (cont ⟨⟩) Q)
          -∗ run c (.op (.semWait barS ((2 : ℕ) : ℤ)) cont) Q) := by
  have hlev : (levAts L lv : sProp 𝕄) ⊢ MayWait (c : Thread nD τ) (.reg barS) 0 O :=
    mayWait c (.reg barS) 0 1 (by decide) (by rw [show kind (.reg barS) = some .bar from kind_csem .bar]; exact le_rfl) hO
  have hexp : 0 + 2 = (sched X).expect (kcell (c, .bar)) 0 := ((expect_eq X (c, .bar)).trans rfl).symm
  have hrest : bigSep ((sched X).duties ((c : Thread nD τ), SemLoc.reg barS) 0 \ ∅) (fun d => (sched X).payload ((c : Thread nD τ), SemLoc.reg barS) 0 d)
      = iprop(lent (xn c) ∗ emp) := rest_bar X c
  unfold owing
  iintro ⟨#HR, Hat, Hc, ⟨%W, HO⟩⟩ Hk
  ihave HI := (records_cell X K J (c, .bar)) $$ HR
  icases HI with ⟨#HI, -⟩
  ihave #Hlev := (records_lev X K J) $$ HR
  iapply (Rounds.wp_wait_rest_token 𝒱₀ ER (sched X) (c : Thread nD τ) none (sm := .reg barS) (k' := 2) (κ := K (c, .bar))
      (wpE_semWait_eq 𝒱₀ (c : Thread nD τ) none Set.univ) (Set.mem_univ _) 0 (O := O) (W := W) (R := 0) (m := 0) (T := ∅)
      hexp) $$ [Hc HO Hat]
  · isplitr; · iexact HI
    isplitl [Hc]; · iexact Hc
    isplitl [HO]; · iexact HO
    isplitr; · iapply hlev; iexact Hlev
    iexact Hat
  iintro ⟨HO, Hat, -, Hpay⟩
  ihave Hp := (Entails.of_eq hrest) $$ Hpay
  icases Hp with ⟨Hp, -⟩
  imod (Rounds.cell_close ER (sched X) (Set.mem_univ (K (c, .bar))) (fun h => h) (R := 0 + 1) (duties_later X ((c : Thread nD τ), SemLoc.reg barS))) $$ [Hat] with Hz
  · isplitr; · iexact HI
    iexact Hat
  iapply Hk
  isplitl [HO]; · iexists _; iexact HO
  isplitl [Hp]; · iexact Hp
  iexact Hz

/-- Once all the credits are taken, the credit cell closes at zero. -/
theorem close_credits (c : Dev nD) :
    iprop(records X K J ∗ credits (F := F) c 19) ⊢ iprop(|={Set.univ}=> semVal (kcell (c, .cred)) 0) := by
  have hd : (sched X).duties (kcell (c, .cred)) 0 = Finset.univ := duties_eq X (c, .cred)
  have he : (sched X).expect (kcell (c, .cred)) 0 = 19 := (expect_eq X (c, .cred)).trans rfl
  unfold credits
  iintro ⟨#HR, ⟨%T, %hT, Hat, -⟩⟩
  have hall : Finset.univ ⊆ T := by
    have h : (Finset.univ \ T : Finset (Fin 19)).card = 0 := by omega
    exact Finset.sdiff_eq_empty_iff_subset.1 (Finset.card_eq_zero.1 h)
  ihave HI := (records_cell X K J (c, .cred)) $$ HR
  icases HI with ⟨#HI, -⟩
  imod (Rounds.fupd_skip ER (sched X) (κ := K (c, .cred)) (g := kcell (c, .cred)) (R := 0) (m := 19) (T := T) (by rw [hd]; exact hall) he.symm
    (Set.mem_univ _)) $$ [Hat] with ⟨Hat, -⟩
  · isplitr; · iexact HI
    iexact Hat
  iapply (Rounds.cell_close ER (sched X) (Set.mem_univ (K (c, .cred))) (fun h => h) (R := 0 + 1) (duties_later X (kcell (c, .cred))))
  isplitr; · iexact HI
  iexact Hat

/-! ## The whole body -/

/-- What a device starts with, beside the records and what it owes. -/
def startRes (c : Dev nD) : sProp 𝕄 :=
  iprop((atPos ER (kcell (c, .bar)) 0 ∅ 0 ∗ cred (tallyAt (kcell (c, .bar)) 0 2) ∗ dutyTok ER (kcell (xn c, .bar)) 0 0 ∗ dutyTok ER (kcell (yn c, .bar)) 0 1)
    ∗ lent c
    ∗ bigSep Finset.univ (fun i => iprop(xAt X c fullShare.right i ∗ dutyTok ER (kcell (c, .s1 i)) 0 0 ∗ dutyTok ER (kcell (xn c, .r1 i)) 0 0))
    ∗ bigSep Finset.univ (stepIn X c)
    ∗ bigSep Finset.univ (fun i => iprop(atPos ER (kcell (c, .s1 i)) 0 ∅ 0 ∗ (atPos ER (kcell (c, .r2 i)) 0 ∅ 0 ∗ cred (tallyAt (kcell (c, .r2 i)) 0 (N i)))))
    ∗ atPos ER (kcell (c, .cred)) 0 ∅ 0 ∗ free c 0 ∗ free c 1 ∗ bAny c)

/-- What it ends with. -/
def endRes (c : Dev nD) : sProp 𝕄 :=
  iprop(bigSep Finset.univ (drained X c) ∗ bigSep Finset.univ (stepOut X c) ∗ bigSep Finset.univ (finishOut X c)
    ∗ semVal (kcell (c, .bar)) 0 ∗ semVal (kcell (c, .cred)) 0 ∗ free c 0 ∗ free c 1 ∗ bAny c)

set_option maxHeartbeats 1000000 in
/-- The body. -/
theorem prog_spec (c : Dev nD) :
    iprop(records X K J ∗ startRes X c ∗ owing c (owed₀ c)) ⊢ run c (prog chunk xn yn) (fun _ => iprop(endRes X c ∗ owing c 0)) := by
  have hword : (1#32 : BitVec 32).toInt = ((1 : ℕ) : ℤ) := rfl
  have hword2 : (2#32 : BitVec 32).toInt = ((2 : ℕ) : ℤ) := rfl
  unfold startRes prog owed₀ owed₁
  simp only [semSignalWord, semWaitWord, Prog.lift, Prog.bind_op, Prog.bind_ret, hword, hword2]
  iintro ⟨#HR, ⟨⟨Hatb, Hcb, Htx, Hty⟩, Hlent, Hsend, Hstep, Hfin, Hatc, Hf0, Hf1, Hb⟩, HO⟩
  iapply (Entails.of_eq (wp_deviceId 𝒱₀ (c : Thread nD τ) none Set.univ).symm)
  iapply (greet X K J c (xn c) 0 (by decide) _) $$ [HO Htx Hlent]
  · isplitr; · iexact HR
    isplitl [HO]; · iexact HO
    isplitl [Htx]; · iexact Htx
    iapply (Entails.of_eq (show lent c = kPay X (xn c) (some .bar) 0 by show lent c = lent (xn (xn c)); rw [xn_xn])); iexact Hlent
  iintro HO
  iapply (greet X K J c (yn c) 1 (by decide) _) $$ [HO Hty]
  · isplitr; · iexact HR
    isplitl [HO]; · iexact HO
    isplitl [Hty]; · iexact Hty
    iapply (Entails.of_eq (show (iprop(emp) : sProp 𝕄) = kPay X (yn c) (some .bar) 1 from rfl)); iempintro
  iintro HO
  iapply (meet X K J c ((above_owedY c 0 (by omega) (by decide)).add (above_owedX (by omega) c 0))) $$ [Hatb Hcb HO]
  · isplitr; · iexact HR
    isplitl [Hatb]; · iexact Hatb
    isplitl [Hcb]; · iexact Hcb
    iexact HO
  iintro ⟨HO, Hlent, Hzb⟩
  -- the sends
  unfold run
  rw [wp_bind]
  have hlend : iprop(bigSep Finset.univ (fun i => iprop(xAt X c fullShare.right i ∗ dutyTok ER (kcell (c, .s1 i)) 0 0 ∗ dutyTok ER (kcell (xn c, .r1 i)) 0 0))
      ∗ lent (xn c)) ⊢ (bigSep Finset.univ (sendIn X c) : sProp 𝕄) := by
    unfold lent
    rw [← bigSep_sep']
    refine (show ∀ h : (∀ i : Fin 19, iprop((xAt X c fullShare.right i ∗ dutyTok ER (kcell (c, .s1 i)) 0 0 ∗ dutyTok ER (kcell (xn c, .r1 i)) 0 0)
        ∗ outAny (xn c) (pass (xn c)) i) ⊢ (sendIn X c i : sProp 𝕄)), _ from fun h => bigSep_mono fun i _ => h i) fun i => ?_
    unfold sendIn
    rw [pass_xn]
    iintro ⟨⟨Hx, Ht⟩, Ho⟩
    isplitl [Hx]; · iexact Hx
    isplitl [Ho]; · iexact Ho
    iexact Ht
  ihave Hsend := hlend $$ [Hsend Hlent]
  · isplitl [Hsend]; · iexact Hsend
    iexact Hlent
  ihave H := (send_loop X K J c (owedY c 0)) $$ [Hsend HO]
  · isplitr; · iexact HR
    isplitl [Hsend]; · iexact Hsend
    iexact HO
  iapply (wp_wand (Fr := frame) (wpE := wpE (defs₀ (F := F)) 𝒱₀ (c : Thread nD τ) none)) $$ H
  iintro %a ⟨Hcs, HO⟩
  -- the sums
  rw [wp_bind]
  have h0 : pend X c 0 = free c 0 := pend_early X c 0 (by decide)
  have h1 : pend X c (0 + 1) = free c 1 := pend_early X c 1 (by decide)
  have h19 : pend X c 19 = flying X c 17 := pend_next X c 17
  have h20 : pend X c (19 + 1) = flying X c 18 := pend_next X c 18
  ihave H := (run_all (F := F) c (step chunk c) (stepIn X c) (stepOut X c) (between X K J c) (step_spec X K J c)) $$ [Hstep HO Hb Hf0 Hf1 Hatc]
  · isplitl [Hstep]; · iexact Hstep
    unfold between
    rw [h0, h1]
    isplitr; · iexact HR
    isplitl [HO]; · iexact HO
    isplitl [Hb]; · iexact Hb
    isplitl [Hf0 Hf1]
    · isplitl [Hf0]; · iexact Hf0
      iexact Hf1
    isplitl [Hatc]
    · unfold credits
      iexists ∅
      isplitr; · ipureintro; decide
      isplitl [Hatc]; · iexact Hatc
      rw [bigSep_empty]; iempintro
    have hb0 : before 0 = ∅ := by simp [before]
    unfold readFirst
    rw [show 0 - 2 = 0 from rfl, hb0, bigSep_empty, bigSep_empty]
    isplitl [] <;> iempintro
  iapply (wp_wand (Fr := frame) (wpE := wpE (defs₀ (F := F)) 𝒱₀ (c : Thread nD τ) none)) $$ H
  unfold between
  rw [h19, h20, owedY_end]
  iintro %a ⟨Hso, -, HO, Hb, ⟨Hfl17, Hfl18⟩, Hcr, -, Hdr⟩
  -- the last waits
  rw [wp_bind]
  have hfinin : iprop(bigSep Finset.univ (fun i => iprop(atPos ER (kcell (c, .s1 i)) 0 ∅ 0 ∗ (atPos ER (kcell (c, .r2 i)) 0 ∅ 0 ∗ cred (tallyAt (kcell (c, .r2 i)) 0 (N i)))))
      ∗ bigSep Finset.univ (fun i => cred (tallyAt (kcell (c, .s1 i)) 0 (N i)))) ⊢ (bigSep Finset.univ (finishIn (F := F) c) : sProp 𝕄) := by
    rw [← bigSep_sep']
    refine (show ∀ h : (∀ i : Fin 19, iprop((atPos ER (kcell (c, .s1 i)) 0 ∅ 0 ∗ (atPos ER (kcell (c, .r2 i)) 0 ∅ 0 ∗ cred (tallyAt (kcell (c, .r2 i)) 0 (N i))))
        ∗ cred (tallyAt (kcell (c, .s1 i)) 0 (N i))) ⊢ (finishIn c i : sProp 𝕄)), _ from fun h => bigSep_mono fun i _ => h i) fun i => ?_
    unfold finishIn
    iintro ⟨⟨Ha, Hr⟩, Hc⟩
    isplitl [Ha Hc]
    · isplitl [Ha]; · iexact Ha
      iexact Hc
    iexact Hr
  ihave Hfin := hfinin $$ [Hfin Hcs]
  · isplitl [Hfin]; · iexact Hfin
    iexact Hcs
  ihave H := (run_all (F := F) c (finish chunk c) (finishIn c) (finishOut X c) (fun _ => iprop(records X K J ∗ owing c 0)) (finish_spec X K J c)) $$ [Hfin HO]
  · isplitl [Hfin]; · iexact Hfin
    isplitr; · iexact HR
    iexact HO
  iapply (wp_wand (Fr := frame) (wpE := wpE (defs₀ (F := F)) 𝒱₀ (c : Thread nD τ) none)) $$ H
  iintro %a ⟨Hfo, -, HO⟩
  -- the last two drains
  rw [wp_bind]
  ihave H := (drain_spec X K J c 17 (Above.zero 0)) $$ [Hfl17 HO]
  · isplitr; · iexact HR
    isplitl [Hfl17]; · iexact Hfl17
    iexact HO
  iapply (wp_wand (Fr := frame) (wpE := wpE (defs₀ (F := F)) 𝒱₀ (c : Thread nD τ) none)) $$ H
  iintro %a ⟨Hd17, Hf17, HO⟩
  ihave H := (drain_spec X K J c 18 (Above.zero 0)) $$ [Hfl18 HO]
  · isplitr; · iexact HR
    isplitl [Hfl18]; · iexact Hfl18
    iexact HO
  imod (close_credits X K J c) $$ [Hcr] with Hzc
  · isplitr; · iexact HR
    iexact Hcr
  iapply (wp_wand (Fr := frame) (wpE := wpE (defs₀ (F := F)) 𝒱₀ (c : Thread nD τ) none)) $$ H
  iintro %a ⟨Hd18, Hf18, HO⟩
  unfold endRes
  isplitr [HO]
  · isplitl [Hdr Hd17 Hd18]
    · rw [show (Finset.univ : Finset (Fin 19)) = insert 18 (insert 17 (before 17)) by decide]
      rw [bigSep_insert (by decide), bigSep_insert (by decide)]
      iapply (show iprop(drained X c 18 ∗ drained X c 17 ∗ bigSep (before 17) (drained X c)) ⊢ BI.sep (drained X c 18) (BI.sep (drained X c 17) (bigSep (before 17) (drained X c))) from Entails.refl _)
      isplitl [Hd18]; · unfold drained; iexact Hd18
      isplitl [Hd17]; · unfold drained; iexact Hd17
      iexact Hdr
    isplitl [Hso]; · iexact Hso
    isplitl [Hfo]; · iexact Hfo
    isplitl [Hzb]; · iexact Hzb
    isplitl [Hzc]; · iexact Hzc
    isplitl [Hf18]; · iexact Hf18
    isplitl [Hf17]; · iexact Hf17
    iexact Hb
  iexact HO

end Cert.KernelIdeal.TwoPhase

end
-- ==== Proof.Ghost.lean ====
/-
# What the launch deals

The tokens of every cell and of every release, from the launch's element to the devices that spend them.
-/
module

public import proofs.«01_k».proof.Proof.Body

@[expose] public section

set_option synthInstance.maxSize 4096

noncomputable section

namespace Cert.KernelIdeal.TwoPhase

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers
open Cert.KernelIdeal.Gen

variable {F : FTy → Type} [FloatOps F]

local notation "𝕄" => MT nD τ sig ℕ (Elt F) ℕ UU ℕ

variable (X : Dev nD → S32768x1024.Idx → F .f32) (K : Dev nD × Kind → ℕ) (J : Dev nD × Fin 19 → ℕ)

/-- The neighbour maps, as renamings of the devices. -/
def xnE : Dev nD ≃ Dev nD := ⟨xn, xn, xn_xn, xn_xn⟩
/-- See `xnE`. -/
def ynE : Dev nD ≃ Dev nD := ⟨yn, yn, yn_yn, yn_yn⟩

/-! ## The launch's element -/

/-- Every cell. -/
def allCells : Finset (GSem nD τ sig) := Finset.univ.map ⟨kcell, kcell_inj⟩

/-- A cell's duties as minted, kind by kind: the two of a barrier, one per unit of a credit cell, one of any other. -/
abbrev Duty : Type := (Unit ⊕ Unit) ⊕ (Fin 19 ⊕ ((Fin 19 ⊕ Fin 19) ⊕ (Fin 19 ⊕ Fin 19)))
/-- See `Duty`. -/
def Duty.at : Duty → Kind × Fin 19
  | .inl (.inl _) => (.bar, 0)
  | .inl (.inr _) => (.bar, 1)
  | .inr (.inl i) => (.cred, i)
  | .inr (.inr (.inl (.inl i))) => (.s1 i, 0)
  | .inr (.inr (.inl (.inr i))) => (.r1 i, 0)
  | .inr (.inr (.inr (.inl i))) => (.s2 i, 0)
  | .inr (.inr (.inr (.inr i))) => (.r2 i, 0)

/-- Different duties fall on different places. -/
theorem Duty.at_inj : Function.Injective Duty.at := by
  rintro ((_ | _) | (_ | ((_ | _) | (_ | _)))) ((_ | _) | (_ | ((_ | _) | (_ | _)))) h <;> simp_all [Duty.at]

/-- A duty's token, of a device's cell. -/
def tokOf (x : Dev nD × Duty) : GSem nD τ sig × ℕ × Fin 19 := (kcell (x.1, (Duty.at x.2).1), 0, (Duty.at x.2).2)
/-- Different duties have different tokens. -/
theorem tokOf_inj : Function.Injective tokOf := fun a b h => by
  have h1 := kcell_inj (congrArg Prod.fst h)
  have h2 : (Duty.at a.2).2 = (Duty.at b.2).2 := congrArg (fun x : GSem nD τ sig × ℕ × Fin 19 => x.2.2) h
  exact Prod.ext (congrArg (fun x : Dev nD × Kind => x.1) h1) (Duty.at_inj (Prod.ext (congrArg (fun x : Dev nD × Kind => x.2) h1) h2))
/-- Every token. -/
def allToks : Finset (GSem nD τ sig × ℕ × Fin 19) := Finset.univ.map ⟨tokOf, tokOf_inj⟩

/-- The launch's element: the rounds of every cell, and one write per release. -/
def u₀ : UU :=
  (initOf (Pipeline.cells cfgs cellOf_inj) (Pipeline.launchToks cfgs cellOf_inj), (initOf allCells allToks, (initSlots Finset.univ 1, (1 : Counters))))

/-! ## Its parts, device by device -/

/-- The tokens of a device's own cells, -/
def toks (c : Dev nD) : sProp 𝕄 :=
  iprop((dutyTok ER (kcell (c, .bar)) 0 0 ∗ dutyTok ER (kcell (c, .bar)) 0 1)
    ∗ bigSep Finset.univ (fun i : Fin 19 => dutyTok ER (kcell (c, .cred)) 0 i)
    ∗ (bigSep Finset.univ (fun i : Fin 19 => dutyTok ER (kcell (c, .s1 i)) 0 0) ∗ bigSep Finset.univ (fun i : Fin 19 => dutyTok ER (kcell (c, .r1 i)) 0 0))
    ∗ (bigSep Finset.univ (fun i : Fin 19 => dutyTok ER (kcell (c, .s2 i)) 0 0) ∗ bigSep Finset.univ (fun i : Fin 19 => dutyTok ER (kcell (c, .r2 i)) 0 0)))
/-- and those it pays with. -/
def payToks (c : Dev nD) : sProp 𝕄 :=
  iprop((dutyTok ER (kcell (xn c, .bar)) 0 0 ∗ dutyTok ER (kcell (yn c, .bar)) 0 1)
    ∗ bigSep Finset.univ (fun i : Fin 19 => dutyTok ER (kcell (yn c, .cred)) 0 i)
    ∗ (bigSep Finset.univ (fun i : Fin 19 => dutyTok ER (kcell (c, .s1 i)) 0 0) ∗ bigSep Finset.univ (fun i : Fin 19 => dutyTok ER (kcell (xn c, .r1 i)) 0 0))
    ∗ (bigSep Finset.univ (fun i : Fin 19 => dutyTok ER (kcell (c, .s2 i)) 0 0) ∗ bigSep Finset.univ (fun i : Fin 19 => dutyTok ER (kcell (yn c, .r2 i)) 0 0)))

/-- The tokens of all cells, dealt out to those who pay. -/
theorem toks_deal : (bigSep Finset.univ fun c : Dev nD => (toks c : sProp 𝕄)) ⊢ bigSep Finset.univ fun c : Dev nD => payToks c := by
  unfold toks payToks
  simp only [bigSep_sep']
  rw [bigSep_univ_equiv xnE (fun c : Dev nD => (dutyTok ER (kcell (c, .bar)) 0 0 : sProp 𝕄)),
    bigSep_univ_equiv ynE (fun c : Dev nD => (dutyTok ER (kcell (c, .bar)) 0 1 : sProp 𝕄)),
    bigSep_univ_equiv ynE (fun c : Dev nD => (bigSep Finset.univ (fun i : Fin 19 => dutyTok ER (kcell (c, .cred)) 0 i) : sProp 𝕄)),
    bigSep_univ_equiv xnE (fun c : Dev nD => (bigSep Finset.univ (fun i : Fin 19 => dutyTok ER (kcell (c, .r1 i)) 0 0) : sProp 𝕄)),
    bigSep_univ_equiv ynE (fun c : Dev nD => (bigSep Finset.univ (fun i : Fin 19 => dutyTok ER (kcell (c, .r2 i)) 0 0) : sProp 𝕄))]
  exact Entails.refl _

/-- A device reads its own passed half, chunk by chunk, and its neighbour along the second axis writes there after it. -/
def turns (c : Dev nD) : sProp 𝕄 := iprop(bigSep Finset.univ (fun i : Fin 19 => readerAt EK (c, i) 0) ∗ bigSep Finset.univ (fun i : Fin 19 => writeTok EK (yn c, i) 1))

/-- The invariants of the releases. -/
def slots : sProp 𝕄 := bigSep Finset.univ fun y => slotInv EK (J y) y (passSlot (F := F) y)

/-- The releases' invariants may be kept. -/
instance slots_persistent : BI.Persistent (slots (F := F) J) := by unfold slots; infer_instance

/-- The releases are opened, and every device gets its turns. -/
theorem slots_deal : BI.own (EK (initSlots Finset.univ 1)) ⊢ (|={Set.univ}=> ∃ J, slots J ∗ bigSep Finset.univ turns : sProp 𝕄) := by
  have hw : bigSep ((Finset.univ : Finset (Dev nD × Fin 19)) ×ˢ Finset.range 1) (fun x => (writeTok EK x.1 (x.2 + 1) : sProp 𝕄))
      = bigSep Finset.univ fun c : Dev nD => bigSep Finset.univ fun i : Fin 19 => writeTok EK (yn c, i) 1 := by
    rw [Finset.range_one, Finset.product_singleton, bigSep_map, bigSep_univ_prod, bigSep_univ_equiv ynE]
    rfl
  iintro H
  imod (slots_init EK (Finset.univ : Finset (Dev nD × Fin 19)) 1 passSlot) $$ H with ⟨%J, -, HI, HR, HW⟩
  imodintro
  iexists J
  unfold slots turns
  isplitl [HI]; · iexact HI
  rw [bigSep_sep']
  isplitl [HR]
  · iapply (Entails.of_eq (bigSep_univ_prod (fun y : Dev nD × Fin 19 => (readerAt EK y 0 : sProp 𝕄)))); iexact HR
  · iapply (Entails.of_eq hw); iexact HW

/-- What the launch's element deals device `c`. -/
def G (c : Dev nD) : sProp 𝕄 :=
  iprop((bigSep Finset.univ fun k : Kind => roundState ER (sched X) (kcell (c, k)) 0)
    ∗ (bigSep Finset.univ fun k : Kind => iprop(atPos ER (kcell (c, k)) 0 ∅ 0 ∗ reached ER (kcell (c, k)) 0)) ∗ toks c
    ∗ (∃ J, slots J) ∗ turns c)

/-- The accounts of all cells begin: the state of each, the place of its owner, and the tokens. -/
theorem rounds_deal : BI.own (ER (initOf allCells allToks)) ⊢
    iprop(|==> ((bigSep Finset.univ fun c : Dev nD => bigSep Finset.univ fun k : Kind => roundState ER (sched X) (kcell (c, k)) 0)
      ∗ (bigSep Finset.univ fun c : Dev nD => bigSep Finset.univ fun k : Kind => iprop(atPos ER (kcell (c, k)) 0 ∅ 0 ∗ reached ER (kcell (c, k)) 0))
      ∗ bigSep Finset.univ toks) : sProp 𝕄) := by
  have hX (Φ : GSem nD τ sig → sProp 𝕄) : bigSep allCells Φ = bigSep Finset.univ fun c : Dev nD => bigSep Finset.univ fun k : Kind => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    rw [bigSep_univ_sum, bigSep_univ_sum, bigSep_univ_sum, bigSep_univ_sum, bigSep_univ_sum, bigSep_univ_sum,
      bigSep_univ_of_subsingleton (), bigSep_univ_of_subsingleton ()]
    rfl
  iintro H
  imod (Rounds.fund ER (sched X) allCells allToks) $$ H with ⟨Hst, Hr, Hat, Htok⟩
  imodintro
  ihave Hst := (Entails.of_eq (hX fun g => roundState ER (sched X) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  simp only [bigSep_sep']
  isplitl [Hst]; · iexact Hst
  isplitl [Hat Hr]
  · isplitl [Hat] <;> iassumption
  iexact Htok

/-- A persistent fact beside each of a family. -/
theorem beside {I : Type} [DecidableEq I] (S : Finset I) (R : sProp 𝕄) [BI.Persistent R] (Φ : I → sProp 𝕄) :
    iprop(R ∗ bigSep S Φ) ⊢ bigSep S fun i => iprop(R ∗ Φ i) :=
  (sep_mono_left (BI.bigSep_of_persistent S R)).trans (by rw [← bigSep_sep'])

/-- The launch's element gives the pipeline library its part and every device its own. -/
theorem fund : (ownU u₀ : sProp 𝕄)
    ⊢ |={Set.univ}=> iprop(BI.own (EP (initOf (Pipeline.cells cfgs cellOf_inj) (Pipeline.launchToks cfgs cellOf_inj))) ∗ bigSep Finset.univ (G X)) := by
  unfold u₀
  iintro Hu
  ihave H := (ownU_pair _ _) $$ Hu
  icases H with ⟨HP, HX⟩
  ihave H := (own_pair_emb EU _ _) $$ HX
  icases H with ⟨HR, HX⟩
  ihave H := (own_pair_emb ((Emb.inr : Emb (UK × Counters) UC).trans EU) _ _) $$ HX
  icases H with ⟨HK, -⟩
  imod (rounds_deal X) $$ HR with ⟨Hst, Hat, Htok⟩
  imod (slots_deal (F := F)) $$ HK with ⟨%J, #HJ, Htu⟩
  imodintro
  isplitl [HP]; · iexact HP
  ihave Htu := (beside Finset.univ (iprop(∃ J, slots (F := F) J)) turns) $$ [Htu]
  · isplitr
    · iexists J; iexact HJ
    iexact Htu
  unfold G
  simp only [bigSep_sep']
  isplitl [Hst]; · iexact Hst
  isplitl [Hat]; · iexact Hat
  isplitl [Htok]; · iexact Htok
  iexact Htu

end Cert.KernelIdeal.TwoPhase

end
-- ==== Proof.Deal.lean ====
/-
# Cutting the arrays and joining them again

The argument and the result chunk by chunk, and the first buffer slot by slot.
-/
module

public import proofs.«01_k».proof.Proof.Loops

@[expose] public section

set_option synthInstance.maxSize 4096

noncomputable section

namespace Cert.KernelIdeal.TwoPhase

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers
open Cert.KernelIdeal.Gen

variable {F : FTy → Type} [FloatOps F]

local notation "𝕄" => MT nD τ sig ℕ (Elt F) ℕ UU ℕ

variable (X : Dev nD → S32768x1024.Idx → F .f32) (K : Dev nD × Kind → ℕ) (J : Dev nD × Fin 19 → ℕ)

/-- A half of the result is its chunks. -/
theorem out_half (c : Dev nD) (b : ℕ) (f : S32768x1024.Idx → F .f32) :
    (((c : Thread nD τ).loc main_v1) ↦[rowSet b 16384]{fullShare} f : sProp 𝕄) = bigSep Finset.univ fun i => outAt c b i f := by
  rw [← half_eq]
  exact pointsTo_biUnion (ℓ := (c : Thread nD τ).loc main_v1) Finset.univ (fun i => rowSet (b + st i) (sz i)) fun i _ j _ h => rowSet_disjoint h

/-- A device's half of the argument, at a share, is its chunks. -/
theorem x_half (c : Dev nD) (q : PosShare TreeShare) :
    (((c : Thread nD τ).loc main_arg0) ↦[rowSet (own c) 16384]{q} X c : sProp 𝕄) = bigSep Finset.univ fun i => xAt X c q i := by
  rw [← half_eq]
  exact pointsTo_biUnion (ℓ := (c : Thread nD τ).loc main_arg0) Finset.univ (fun i => rowSet (own c + st i) (sz i)) fun i _ j _ h => rowSet_disjoint h

/-- The result, whole, is its chunks. -/
theorem out_cut (c : Dev nD) (f : S32768x1024.Idx → F .f32) :
    (((c : Thread nD τ).loc main_v1) ↦{fullShare} f : sProp 𝕄)
      ⊣⊢ iprop(bigSep Finset.univ (fun i => outAt c (own c) i f) ∗ bigSep Finset.univ (fun i => outAt c (pass c) i f)) := by
  rw [← out_half, ← out_half, ← (halves c).1]
  exact pointsTo_union (halves c).2

/-- Its chunks, holding anything, are its owner's half and the half it passes. -/
theorem out_deal (c : Dev nD) (f : S32768x1024.Idx → F .f32) :
    (((c : Thread nD τ).loc main_v1) ↦{fullShare} f : sProp 𝕄) ⊢ iprop(bigSep Finset.univ (fun i => outAny (F := F) c (own c) i) ∗ lent c) := by
  have h : ∀ b i, outAt c b i f ⊢ (outAny c b i : sProp 𝕄) := fun b i => by
    rw [outAny_eq]; iintro H; iexists f; iexact H
  have h' : ∀ b, bigSep Finset.univ (fun i => outAt c b i f) ⊢ (bigSep Finset.univ (fun i => outAny c b i) : sProp 𝕄) := fun b => bigSep_mono fun i _ => h b i
  refine (out_cut c f).1.trans ?_
  unfold lent
  iintro ⟨H1, H2⟩
  isplitl [H1]
  · iapply (h' (own c)); iexact H1
  · iapply (h' (pass c)); iexact H2

/-- The argument, whole, is two shares of the chunks of the half its device sums, and the other half. -/
theorem x_cut (c : Dev nD) :
    (((c : Thread nD τ).loc main_arg0) ↦{fullShare} X c : sProp 𝕄)
      ⊣⊢ iprop((bigSep Finset.univ (fun i => xAt X c fullShare.left i) ∗ bigSep Finset.univ (fun i => xAt X c fullShare.right i))
          ∗ (((c : Thread nD τ).loc main_arg0) ↦[rowSet (pass c) 16384]{fullShare} X c)) := by
  rw [← x_half, ← x_half, ← (halves c).1]
  have h := pointsTo_union (Ix := ℕ) (Name := ℕ) (U := UU) (Lvl := ℕ) (Val := Elt F) (ℓ := (c : Thread nD τ).loc main_arg0) (q := fullShare) (f := X c) (halves c).2
  have h' := pointsTo_share (Ix := ℕ) (Name := ℕ) (U := UU) (Lvl := ℕ) (Val := Elt F) (ℓ := (c : Thread nD τ).loc main_arg0) (I := rowSet (own c) 16384) (f := X c) (PosShare.mem_left_op_right fullShare)
  constructor
  · refine h.1.trans ?_
    iintro ⟨H1, H2⟩
    isplitl [H1]; · iapply h'.1; iexact H1
    iexact H2
  · iintro ⟨H1, H2⟩
    iapply h.2
    isplitl [H1]; · iapply h'.2; iexact H1
    iexact H2

/-- A plane of the first buffer, holding anything. -/
def planeAny (c : Dev nD) (s : Fin 2) : sProp 𝕄 := iprop(∃ f, ((c : Thread nD τ).loc cc0_scratch0) ↦[plane s]{fullShare} f)

/-- The first buffer is its two slots; -/
theorem a_cut (c : Dev nD) (f : S2x1024x1024.Idx → F .f32) :
    (((c : Thread nD τ).loc cc0_scratch0) ↦{fullShare} f : sProp 𝕄) ⊢ iprop(planeAny (F := F) c 0 ∗ planeAny c 1) := by
  have h := pointsTo_union (Ix := ℕ) (Name := ℕ) (U := UU) (Lvl := ℕ) (Val := Elt F) (ℓ := (c : Thread nD τ).loc cc0_scratch0) (q := fullShare) (f := f) planes.2
  rw [planes.1] at h
  refine h.1.trans ?_
  unfold planeAny
  iintro ⟨H1, H2⟩
  isplitl [H1]; · iexists f; iexact H1
  iexists f; iexact H2

/-- and the two slots are the buffer again. -/
theorem a_join (c : Dev nD) :
    iprop(planeAny (F := F) c 0 ∗ planeAny c 1) ⊢ (iprop(∃ f, ((c : Thread nD τ).loc cc0_scratch0) ↦{fullShare} f) : sProp 𝕄) := by
  unfold planeAny
  iintro ⟨⟨%f, H1⟩, ⟨%g, H2⟩⟩
  ihave H := (pointsTo_join (ℓ := (c : Thread nD τ).loc cc0_scratch0) (q := fullShare) (f := f) (g := g) planes.2) $$ [H1 H2]
  · isplitl [H1]; · iexact H1
    iexact H2
  rw [planes.1]
  iexists _; iexact H

end Cert.KernelIdeal.TwoPhase

end
-- ==== Proof.Deals.lean ====
/-
# What a device starts from

The semaphores become cells, the launch's credit is what the devices owe, and the three together with the memory are
what the body starts from.
-/
module

public import proofs.«01_k».proof.Proof.Ghost
public import proofs.«01_k».proof.Proof.Deal

@[expose] public section

set_option synthInstance.maxSize 4096

noncomputable section

namespace Cert.KernelIdeal.TwoPhase

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers
open Cert.KernelIdeal.Gen

variable {F : FTy → Type} [FloatOps F]

local notation "𝕄" => MT nD τ sig ℕ (Elt F) ℕ UU ℕ

variable (X : Dev nD → S32768x1024.Idx → F .f32) (K : Dev nD × Kind → ℕ) (J : Dev nD × Fin 19 → ℕ)

/-! ## The semaphores -/

/-- The kernel's own semaphores: the cells but the barrier, and per slot the three of the local transfers. -/
def osem : {k : Kind // k ≠ .bar} ⊕ (Fin 2 × Fin 3) → SemLoc sig
  | .inl k => csem k.1
  | .inr (s, 0) => .dma (pick2 cc0_scratch7 s)
  | .inr (s, 1) => .dma (pick4 cc0_scratch6 ⟨s.val, by omega⟩)
  | .inr (s, 2) => .dma (pick4 cc0_scratch6 ⟨2 + s.val, by omega⟩)

set_option maxRecDepth 20000 in
/-- The list of the call's own semaphores is all of them. -/
theorem ownSemFacts : Pipeline.OwnSemFacts cfg0.spec osem := by decide +kernel

/-- The local transfers' semaphores, at zero. -/
def locals (c : Dev nD) : sProp 𝕄 :=
  iprop((semVal ((c : Thread nD τ), .dma (pick2 cc0_scratch7 0)) 0 ∗ slotSems c 0)
    ∗ (semVal ((c : Thread nD τ), .dma (pick2 cc0_scratch7 1)) 0 ∗ slotSems c 1))

/-- Six conjuncts, regrouped in threes. -/
theorem six (A₁ A₂ A₃ B₁ B₂ B₃ : sProp 𝕄) :
    iprop(A₁ ∗ A₂ ∗ A₃ ∗ B₁ ∗ B₂ ∗ B₃) = iprop((A₁ ∗ A₂ ∗ A₃) ∗ (B₁ ∗ B₂ ∗ B₃)) := by
  refine BI.Entails.antisymm (show _ ⊢ (_ : sProp 𝕄) from ?_) (show _ ⊢ (_ : sProp 𝕄) from ?_)
  · iintro ⟨H1, H2, H3, H⟩
    isplitl [H1 H2 H3]
    · isplitl [H1]; · iexact H1
      isplitl [H2] <;> iassumption
    iexact H
  · iintro ⟨⟨H1, H2, H3⟩, H⟩
    isplitl [H1]; · iexact H1
    isplitl [H2]; · iexact H2
    isplitl [H3] <;> iassumption

/-- The call's own semaphores at zero are the cells of every kind but the barrier, and the local ones. -/
theorem own_sems (c : Dev nD) :
    (Pipeline.ownSems0 (Ix := ℕ) (Name := ℕ) (U := UU) (Lvl := ℕ) (Val := Elt F) (τ := τ) osem c : sProp 𝕄)
      = iprop((bigSep (Finset.univ.erase Kind.bar) fun k => semVal (kcell (c, k)) 0) ∗ locals c) := by
  unfold Pipeline.ownSems0 locals slotSems
  rw [bigSep_univ_sum, ← bigSep_subtype_ne Kind.bar (fun k => (semVal (kcell (c, k)) 0 : sProp 𝕄)),
    bigSep_univ_eq_bigSepL (I := Fin 2 × Fin 3) [(0, 0), (0, 1), (0, 2), (1, 0), (1, 1), (1, 2)] (by decide) (by decide)]
  exact (congrArg (fun P : sProp 𝕄 => iprop((bigSep Finset.univ fun k : {k : Kind // k ≠ Kind.bar} => semVal (kcell (c, k.1)) 0) ∗ P)) (six _ _ _ _ _ _))

/-- The barrier is the one semaphore that outlives the call. -/
theorem barrier_sem (c : Dev nD) : (unscopedSems0 c : sProp 𝕄) = semVal (kcell (c, .bar)) 0 := by
  unfold unscopedSems0; rw [bigSep_eq_bigSepL_of_eq [SemLoc.reg barS] (by decide) (by decide)]; rfl

/-- A device's semaphores at zero are its cells' and the local transfers'. -/
theorem all_sems (c : Dev nD) :
    iprop(Pipeline.ownSems0 (Ix := ℕ) (Name := ℕ) (U := UU) (Lvl := ℕ) (Val := Elt F) (τ := τ) osem c ∗ unscopedSems0 c)
      ⊣⊢ (iprop((bigSep Finset.univ fun k : Kind => semVal (kcell (c, k)) 0) ∗ locals c) : sProp 𝕄) := by
  rw [own_sems, barrier_sem, bigSep_univ_at (fun k : Kind => (semVal (kcell (c, k)) 0 : sProp 𝕄)) Kind.bar]
  constructor
  · iintro ⟨⟨H1, H2⟩, H3⟩
    isplitl [H1 H3]
    · isplitl [H3]; · iexact H3
      iexact H1
    iexact H2
  · iintro ⟨⟨H3, H1⟩, H2⟩
    isplitl [H1 H2]
    · isplitl [H1]; · iexact H1
      iexact H2
    iexact H3

/-! ## The invariants -/

/-- A device's positions. -/
def places (c : Dev nD) : sProp 𝕄 := bigSep Finset.univ fun k : Kind => atPos ER (kcell (c, k)) 0 ∅ 0

/-- What the global step leaves on device `c`: the invariants, and the tokens it spends. -/
def G' (c : Dev nD) : sProp 𝕄 :=
  iprop((∃ K : Dev nD × Kind → ℕ, bigSep Finset.univ fun x => iprop(cellInv ER (sched X) (K x) (kcell x) ∗ reached ER (kcell x) 0)) ∗ (∃ J, slots J)
    ∗ places c ∗ payToks c ∗ turns c ∗ locals c)

/-- A device opens its cells' invariants and keeps what it has of the accounts. -/
theorem alloc (c : Dev nD) :
    iprop(Pipeline.ownSems0 (Ix := ℕ) (Name := ℕ) (U := UU) (Lvl := ℕ) (Val := Elt F) (τ := τ) osem c ∗ unscopedSems0 c ∗ G X c)
      ⊢ |={Set.univ}=> iprop((bigSep Finset.univ fun k => iprop(∃ κ : ℕ, cellInv ER (sched X) κ (kcell (c, k))))
          ∗ ((bigSep Finset.univ fun k => reached ER (kcell (c, k)) 0) ∗ toks c) ∗ (∃ J, slots J) ∗ places c ∗ turns c ∗ locals c) := by
  unfold G places
  simp only [bigSep_sep']
  iintro ⟨Hos, Hus, Hst, ⟨Hat, Hre⟩, Htok, HJ, Htu⟩
  ihave Hv := ((all_sems (F := F) c).1) $$ [Hos Hus]
  · isplitl [Hos] <;> iassumption
  icases Hv with ⟨Hv, Hloc⟩
  imod (show iprop((bigSep Finset.univ fun k : Kind => semVal (kcell (c, k)) 0) ∗ bigSep Finset.univ fun k : Kind => roundState ER (sched X) (kcell (c, k)) 0)
      ⊢ (|={Set.univ}=> bigSep Finset.univ fun k => iprop(∃ κ : ℕ, cellInv ER (sched X) κ (kcell (c, k))) : sProp 𝕄) from by
        rw [← bigSep_sep']
        exact (bigSep_mono fun k _ => (Rounds.body_intro ER (sched X) (kcell (c, k))).trans inv_alloc).trans (bigSep_fupd _ _)) $$ [Hv Hst] with Hinv
  · isplitl [Hv] <;> iassumption
  imodintro
  isplitl [Hinv]; · iexact Hinv
  isplitl [Hre Htok]
  · isplitl [Hre] <;> iassumption
  isplitl [HJ]; · iexact HJ
  isplitl [Hat]; · iexact Hat
  isplitl [Htu]; · iexact Htu
  iexact Hloc

/-- What the devices opened, shared out: each gets the records of all cells and the tokens it pays with. -/
theorem share_out :
    (bigSep Finset.univ fun c : Dev nD => iprop((bigSep Finset.univ fun k => iprop(∃ κ : ℕ, cellInv ER (sched X) κ (kcell (c, k))))
          ∗ ((bigSep Finset.univ fun k => reached ER (kcell (c, k)) 0) ∗ toks c) ∗ (∃ J, slots J) ∗ places c ∗ turns c ∗ locals c) : sProp 𝕄)
      ⊢ bigSep Finset.univ (G' X) := by
  have hI := BI.bigSep_exists_pi Finset.univ (fun (x : Dev nD × Kind) (κ : ℕ) => (cellInv ER (sched X) κ (kcell x) : sProp 𝕄))
  rw [bigSep_univ_prod] at hI
  have hR := bigSep_univ_prod (fun x : Dev nD × Kind => (reached ER (kcell x) 0 : sProp 𝕄))
  have hB := BI.bigSep_of_persistent (Finset.univ : Finset (Dev nD))
    (iprop(∃ K : Dev nD × Kind → ℕ, bigSep Finset.univ fun x => iprop(cellInv ER (sched X) (K x) (kcell x) ∗ reached ER (kcell x) 0)) : sProp 𝕄)
  unfold G'
  simp only [bigSep_sep'] at hB ⊢
  iintro ⟨HI, ⟨HR, Htok⟩, HJ, Hat, Htu, Hloc⟩
  ihave HI := hI $$ HI
  icases HI with ⟨%K, HI⟩
  ihave HR := (Entails.of_eq hR.symm) $$ HR
  ihave Htok := (toks_deal (F := F)) $$ Htok
  isplitl [HI HR]
  · iapply hB
    iexists K
    isplitl [HI] <;> iassumption
  isplitl [HJ]; · iexact HJ
  isplitl [Hat]; · iexact Hat
  isplitl [Htok]; · iexact Htok
  isplitl [Htu]; · iexact Htu
  iexact Hloc

/-- The global step: every device's semaphores become cells, and every token goes to the device that spends it. -/
theorem glob : (bigSep Finset.univ fun c =>
      iprop(Pipeline.ownSems0 (Ix := ℕ) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => alloc X c).trans (bigSep_fupd _ _)).trans (BI.fupd_mono (share_out X))

/-! ## The credit -/

/-- What the launch's credit comes to: the barrier's two units, and every chunk's of the two receive cells and the credit cell. -/
theorem creds (c : Dev nD) :
    (Pipeline.launchCred owed₀ c : sProp 𝕄)
      ⊢ iprop(cred (tallyAt (kcell (c, .bar)) 0 2) ∗ bigSep Finset.univ (fun i : Fin 19 => cred (tallyAt (kcell (c, .r1 i)) 0 (N i)))
          ∗ bigSep Finset.univ (fun i : Fin 19 => cred (tallyAt (kcell (c, .r2 i)) 0 (N i)))
          ∗ bigSep Finset.univ (fun i : Fin 19 => cred (tallyAt (kcell (c, .cred)) i.val 1))) := by
  have hx (k : Kind) (ι n : ℕ) : (Pipeline.launchCred (fun d => tallyAt (kcell (xn d, k)) ι n) c : sProp 𝕄) ⊢ cred (tallyAt (kcell (c, k)) ι n) :=
    Pipeline.launchCred_tallyAt (csem k) xn xn xn_xn xn_xn ι n c
  have hy (k : Kind) (ι n : ℕ) : (Pipeline.launchCred (fun d => tallyAt (kcell (yn d, k)) ι n) c : sProp 𝕄) ⊢ cred (tallyAt (kcell (c, k)) ι n) :=
    Pipeline.launchCred_tallyAt (csem k) yn yn yn_yn yn_yn ι n c
  have h2 : iprop(cred (tallyAt (kcell (c, .bar)) 0 1) ∗ cred (tallyAt (kcell (c, .bar)) 0 1)) ⊢ (cred (tallyAt (kcell (c, .bar)) 0 2) : sProp 𝕄) := by
    rw [← tallyAt_add _ _ 1 1]; exact (cred_add _ _).2
  have hX : (Pipeline.launchCred (fun d => owedX d 0) c : sProp 𝕄) ⊢ bigSep Finset.univ (fun i : Fin 19 => cred (tallyAt (kcell (c, .r1 i)) 0 (N i))) := by
    unfold owedX
    rw [rem_zero, Pipeline.launchCred_sum]
    exact bigSep_mono fun i _ => hx (.r1 i) 0 (N i)
  have hY : (Pipeline.launchCred (fun d => owedY d 0) c : sProp 𝕄) ⊢ iprop(bigSep Finset.univ (fun i : Fin 19 => cred (tallyAt (kcell (c, .r2 i)) 0 (N i)))
      ∗ bigSep Finset.univ (fun i : Fin 19 => cred (tallyAt (kcell (c, .cred)) i.val 1))) := by
    unfold owedY
    rw [rem_zero, Pipeline.launchCred_sum, ← bigSep_sep']
    refine bigSep_mono fun i _ => ?_
    rw [Pipeline.launchCred_add]
    exact BI.sep_mono (hy (.r2 i) 0 (N i)) (hy .cred i.val 1)
  unfold owed₀ owed₁
  rw [Pipeline.launchCred_add, Pipeline.launchCred_add, Pipeline.launchCred_add]
  iintro ⟨⟨⟨HY, HX⟩, Hb⟩, Hb'⟩
  ihave Hb := (hy .bar 0 1) $$ Hb
  ihave Hb' := (hx .bar 0 1) $$ Hb'
  isplitl [Hb Hb']
  · iapply h2
    isplitl [Hb] <;> iassumption
  ihave HX := hX $$ HX
  isplitl [HX]; · iexact HX
  iapply hY; iexact HY

end Cert.KernelIdeal.TwoPhase

end
-- ==== Proof.Launch.lean ====
/-
# The run

Every device's body from what the launch deals it, and the run of the whole mesh: for any float values it ends, every
counter at zero, with the argument kept and the result the sum the body leaves.
-/
module

public import proofs.«01_k».proof.Proof.Deals
public import Idealize.ShloMosaic.Lib.Pipeline.Kit
public import Idealize.ShloMosaic.Lib.Pipeline.Regions
public import Idealize.ShloMosaic.Lib.Pipeline.CollectiveSegs

@[expose] public section

set_option synthInstance.maxSize 4096

noncomputable section

namespace Cert.KernelIdeal.TwoPhase

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers
open Cert.KernelIdeal.Gen
open Idealize.ShloMosaic.Pipeline (Dat Cfg Window BodyObligation cellOf)

variable {F : FTy → Type} [FloatOps F]

local notation "𝕄" => MT nD τ sig ℕ (Elt F) ℕ UU ℕ

section Parts

variable (X : Dev nD → S32768x1024.Idx → F .f32)

/-! ## What the body starts from and ends with -/

/-- What the launch deals device `c`'s body, but for its buffers. -/
def start (c : Dev nD) : sProp 𝕄 :=
  iprop(G' X c ∗ levAts L lv
    ∗ (cred (tallyAt (kcell (c, .bar)) 0 2) ∗ bigSep Finset.univ (fun i : Fin 19 => cred (tallyAt (kcell (c, .r1 i)) 0 (N i)))
      ∗ bigSep Finset.univ (fun i : Fin 19 => cred (tallyAt (kcell (c, .r2 i)) 0 (N i)))
      ∗ bigSep Finset.univ (fun i : Fin 19 => cred (tallyAt (kcell (c, .cred)) i.val 1)))
    ∗ (bigSep Finset.univ (fun i => outAny (F := F) c (own c) i) ∗ lent c)
    ∗ (bigSep Finset.univ (fun i => xAt X c fullShare.left i) ∗ bigSep Finset.univ (fun i => xAt X c fullShare.right i)))

/-- A device's buffers, holding anything. -/
def buffers (c : Dev nD) : sProp 𝕄 :=
  iprop((∃ f, ((c : Thread nD τ).loc cc0_scratch0) ↦{fullShare} f) ∗ (∃ f, ((c : Thread nD τ).loc cc0_scratch1) ↦{fullShare} f))

/-- What a device has at the start of the call is what its body starts from. -/
theorem body_start (c : Dev nD) : iprop(start X c ∗ buffers c) ⊢ (iprop(∃ K J, records X K J ∗ startRes X c) : sProp 𝕄) := by
  have hp : places c ⊢ (iprop((atPos ER (kcell (c, .bar)) 0 ∅ 0 ∗ atPos ER (kcell (c, .cred)) 0 ∅ 0)
      ∗ ((bigSep Finset.univ (fun i => atPos ER (kcell (c, .s1 i)) 0 ∅ 0) ∗ bigSep Finset.univ (fun i => atPos ER (kcell (c, .r1 i)) 0 ∅ 0))
      ∗ (bigSep Finset.univ (fun i => atPos ER (kcell (c, .s2 i)) 0 ∅ 0) ∗ bigSep Finset.univ (fun i => atPos ER (kcell (c, .r2 i)) 0 ∅ 0)))) : sProp 𝕄) := by
    unfold places; rw [bigSep_kind]
  have ha : iprop(∃ f, ((c : Thread nD τ).loc cc0_scratch0) ↦{fullShare} f) ⊢ (iprop(planeAny c 0 ∗ planeAny c 1) : sProp 𝕄) := by
    iintro ⟨%f, H⟩; iapply (a_cut c f); iexact H
  unfold start buffers startRes G' payToks turns locals free stepIn slots
  simp only [bigSep_sep']
  iintro ⟨⟨⟨⟨%K, HI⟩, ⟨%J, HJ⟩, Hat, ⟨⟨Htx, Hty⟩, Htc, ⟨Hts1, Htr1⟩, Hts2, Htr2⟩, ⟨Hrd, Hwr⟩, ⟨⟨Ho0, Hs0⟩, Ho1, Hs1⟩⟩, Hlev, ⟨Hcb, Hcr1, Hcr2, Hcc⟩, ⟨Hown, Hlent⟩, Hxl, Hxr⟩, Ha, Hb⟩
  ihave Hat := hp $$ Hat
  icases Hat with ⟨⟨Hab, Hac⟩, ⟨Has1, Har1⟩, Has2, Har2⟩
  ihave Ha := ha $$ Ha
  icases Ha with ⟨Ha0, Ha1⟩
  iexists K; iexists J
  isplitl [HI HJ Hlev]
  · unfold records
    simp only [bigSep_sep']
    isplitl [HI]; · iexact HI
    isplitl [HJ]; · iexact HJ
    iexact Hlev
  isplitl [Hab Hcb Htx Hty]
  · isplitl [Hab]; · iexact Hab
    isplitl [Hcb]; · iexact Hcb
    isplitl [Htx]; · iexact Htx
    iexact Hty
  isplitl [Hlent]; · iexact Hlent
  isplitl [Hxr Hts1 Htr1]
  · isplitl [Hxr]; · iexact Hxr
    isplitl [Hts1]; · iexact Hts1
    iexact Htr1
  isplitl [Har1 Hcr1 Hcc Hts2 Htr2 Htc Hrd Hwr Hown Has2 Hxl]
  · isplitl [Har1 Hcr1]
    · isplitl [Har1]; · iexact Har1
      iexact Hcr1
    isplitl [Hcc]; · iexact Hcc
    isplitl [Hts2 Htr2 Htc]
    · isplitl [Hts2]; · iexact Hts2
      isplitl [Htr2]; · iexact Htr2
      iexact Htc
    isplitl [Hrd Hwr]
    · isplitl [Hrd]; · iexact Hrd
      iexact Hwr
    isplitl [Hown]; · iexact Hown
    isplitl [Has2]; · iexact Has2
    iexact Hxl
  isplitl [Has1 Har2 Hcr2]
  · isplitl [Has1]; · iexact Has1
    isplitl [Har2]; · iexact Har2
    iexact Hcr2
  isplitl [Hac]; · iexact Hac
  isplitl [Ha0 Ho0 Hs0]
  · isplitl [Ha0]; · unfold planeAny; iexact Ha0
    isplitl [Ho0]; · iexact Ho0
    iexact Hs0
  isplitl [Ha1 Ho1 Hs1]
  · isplitl [Ha1]; · unfold planeAny; iexact Ha1
    isplitl [Ho1]; · iexact Ho1
    iexact Hs1
  unfold bAny; iexact Hb

/-- What the body hands back: the result, the argument's chunks, and every counter at zero. -/
def results (c : Dev nD) : sProp 𝕄 :=
  iprop(unscopedSems0 c ∗ (((c : Thread nD τ).loc main_v1) ↦{fullShare} fin X c)
    ∗ (bigSep Finset.univ (fun i => xAt X c fullShare.left i) ∗ bigSep Finset.univ (fun i => xAt X c fullShare.right i)))

/-- What the body ends with is the results, the semaphores at zero and the buffers. -/
theorem body_end (c : Dev nD) :
    (endRes X c : sProp 𝕄) ⊢ iprop(results X c
      ∗ Pipeline.ownSems0 (Ix := ℕ) (Name := ℕ) (U := UU) (Lvl := ℕ) (Val := Elt F) (τ := τ) osem c ∗ buffers c) := by
  have hs := (all_sems (F := F) c).2
  rw [bigSep_kind] at hs
  unfold endRes results drained stepOut finishOut free buffers
  simp only [bigSep_sep']
  iintro ⟨⟨Hown, Hs2⟩, ⟨Hr1, Hxl⟩, ⟨⟨Hxr, Hs1⟩, Hpass, Hr2⟩, Hb, Hc, ⟨Ha0, Ho0, Hl0⟩, ⟨Ha1, Ho1, Hl1⟩, HB⟩
  ihave H := hs $$ [Hs2 Hr1 Hs1 Hr2 Hb Hc Ho0 Hl0 Ho1 Hl1]
  · isplitl [Hs2 Hr1 Hs1 Hr2 Hb Hc]
    · isplitl [Hb Hc]
      · isplitl [Hb] <;> iassumption
      isplitl [Hs1 Hr1]
      · isplitl [Hs1] <;> iassumption
      isplitl [Hs2] <;> iassumption
    unfold locals
    isplitl [Ho0 Hl0]
    · isplitl [Ho0] <;> iassumption
    isplitl [Ho1] <;> iassumption
  icases H with ⟨Hos, Hus⟩
  isplitl [Hus Hown Hpass Hxl Hxr]
  · isplitl [Hus]; · iexact Hus
    isplitl [Hown Hpass]
    · iapply ((out_cut c (fin X c)).2)
      isplitl [Hown]; · iexact Hown
      iexact Hpass
    isplitl [Hxl]; · iexact Hxl
    iexact Hxr
  isplitl [Hos]; · iexact Hos
  isplitl [Ha0 Ha1]
  · iapply (a_join (F := F) c)
    unfold planeAny
    isplitl [Ha0]; · iexact Ha0
    iexact Ha1
  unfold bAny; iexact HB

end Parts

variable (m : (ℓ : Loc nD τ sig) → Buf (Elt F) ℓ) (ρ : Dev nD → PrngReg)

/-- The argument as the run finds it. -/
abbrev arg (c : Dev nD) : S32768x1024.Idx → F .f32 := m ((c : Thread nD τ).loc main_arg0)

/-! ## The pipeline library's data: no windows, one point -/

/-- The call's data: before its one step the start, after it the results. -/
def dats (_ : Fin 1) (c : Dev nD) : Dat τ (Elt F) ℕ ℕ UU ℕ cfg0 c where
  A w := w.elim0
  after w _ := w.elim0
  Φ t := match t with
    | ⟨0, _⟩ => iprop(start (arg m) c ∗ buffers c)
    | ⟨_ + 1, _⟩ => endRes (arg m) c
  q _ := fullShare
  owed t := match t with
    | ⟨0, _⟩ => owed₀ c
    | ⟨_ + 1, _⟩ => 0

/-- The call has no windows. -/
theorem no_windows (Φ : Fin cfg0.W → sProp 𝕄) : bigSep Finset.univ Φ = iprop(emp) := by
  rw [show (Finset.univ : Finset (Fin cfg0.W)) = ∅ from rfl, bigSep_empty]; rfl

/-- The program the pipeline library calls at its one point. -/
theorem called (t : Fin cfg0.N) : (defs₀ (F := F) .tc cfg0.body (cfg0.bodyArgs t (cfg0.slots t)) : Prg F) = prog chunk xn yn :=
  (show _ = bodyAt0 (F := F) t from rfl).trans (body_eq_chunk t)

/-- The body does its one step. -/
theorem body_obligation (c : Dev nD) : BodyObligation (dats m 0 c) (defs₀ (F := F)) 𝒱₀ 0 Set.univ := fun t => by
  rw [called t, fin_N0 t, no_windows, no_windows]
  have h0 : (dats m 0 c).Φ t0_0.castSucc = iprop(start (arg m) c ∗ buffers c) := rfl
  have h1 : (dats m 0 c).Φ t0_0.succ = endRes (arg m) c := rfl
  rw [h0, h1]
  iintro ⟨Hs, Ho, -⟩
  ihave Hs := (body_start (arg m) c) $$ Hs
  icases Hs with ⟨%K, %J, HR, Hs⟩
  icases Ho with ⟨%W, %hW, HO⟩
  ihave H := (prog_spec (arg m) K J c) $$ [HR Hs HO]
  · isplitl [HR]; · iexact HR
    isplitl [Hs]; · iexact Hs
    unfold owing
    iexists W; iexact HO
  unfold run
  iapply (wp_wand (Fr := frame) (wpE := wpE (defs₀ (F := F)) 𝒱₀ (c : Thread nD τ) none)) $$ H
  unfold owing
  iintro %a ⟨He, %W', HO⟩
  isplitl [He]; · iexact He
  isplitl [HO]
  · iexists W'
    isplitr; · (ipureintro; exact fun _ _ => Or.inl trivial)
    iexact HO
  iempintro

/-! ## The launch's side conditions -/

/-- The half of the argument a device leaves alone. -/
def kept (c : Dev nD) : sProp 𝕄 := ((c : Thread nD τ).loc main_arg0) ↦[rowSet (pass c) 16384]{fullShare} arg m c

/-- What a device gets at launch is the start, and the rest of its memory, which is kept. -/
theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' (arg m) c)
      ⊢ |={Set.univ}=> (iprop(start (arg m) c ∗ kept m c) : sProp 𝕄) := by
  rw [Pipeline.unscopedRestP_none, unscopedRest0_eq]
  iintro ⟨⟨Hx, Ho⟩, Hlev, Hcr, -, HG⟩
  ihave Hcr := (creds (F := F) c) $$ Hcr
  ihave Hx := ((x_cut (arg m) c).1) $$ Hx
  icases Hx with ⟨Hx, Hk⟩
  ihave Ho := (out_deal (F := F) c (m ((c : Thread nD τ).loc main_v1))) $$ Ho
  imodintro
  unfold start kept
  isplitr [Hk]
  · isplitl [HG]; · iexact HG
    isplitl [Hlev]; · iexact Hlev
    isplitl [Hcr]; · iexact Hcr
    isplitl [Ho]; · iexact Ho
    iexact Hx
  iexact Hk

/-- The start with the buffers is the state before the step; -/
theorem phi_enter (c : Dev nD) :
    iprop(start (arg m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start (arg m) c ∗ buffers c) from rfl, scopedRest0_eq]
  iintro ⟨Hs, -, Hr⟩
  isplitl [Hs]; · iexact Hs
  unfold buffers; iexact Hr

/-- the state after it is the results, the semaphores at zero and the buffers. -/
theorem phi_leave (c : Dev nD) :
    (dats m 0 c).Φ (Fin.last cfg0.N) ⊢ iprop(results (arg m) c ∗ Pipeline.ownSems0 osem c ∗ Pipeline.scopedRest cfg0.spec c) := by
  rw [show (dats m 0 c).Φ (Fin.last cfg0.N) = endRes (arg m) c from rfl, scopedRest0_eq]
  exact body_end (arg m) c

/-- What a final state holds on device `c`. -/
def Done (c : Dev nD) (s : MemSt nD τ sig (Elt F)) : Prop :=
  s.mem ((c : Thread nD τ).loc main_v1) = fin (arg m) c ∧ s.mem ((c : Thread nD τ).loc main_arg0) = arg m c

/-- From the results and the machine: the result and the argument hold what they should, and the barrier is at zero. -/
theorem read_end (c : Dev nD) (s' : Phys nD τ sig (Elt F)) :
    iprop(results (arg m) c ∗ kept m c ∗ SI s')
      ⊢ |={Set.univ}=> (iprop(⌜Done m c s'.mem ∧ ∀ sm : SemLoc sig, sm.isScoped .tc = false → s'.mem.sem ((c.tc : Thread nD τ), sm) = 0⌝ ∗ SI s') : sProp 𝕄) := by
  unfold results kept
  iintro ⟨⟨Hu, Ho, Hx⟩, Hk, HSI⟩
  ihave Hx := ((x_cut (arg m) c).2) $$ [Hx Hk]
  · isplitl [Hx]; · iexact Hx
    iexact Hk
  icombine HSI Ho gives %h1
  icombine HSI Hx gives %h2
  imod (Pipeline.unscopedSems0_read (X := unscopedSems0 c) (c := c) fupd_intro s') $$ [Hu HSI] with ⟨%h3, HSI⟩
  · isplitl [Hu] <;> iassumption
  imodintro
  isplitr
  · ipureintro
    exact ⟨⟨Buf.eq_of_forall_mem_univ h1, Buf.eq_of_forall_mem_univ h2⟩, h3⟩
  iexact HSI

set_option maxRecDepth 16000 in
/-- For any float values, from any memory and every counter at zero: every fair execution ends, with each device's
    result the sum of its own and its neighbours' rows, its argument kept and every counter at zero. -/
theorem run_main : θ_run defs (onTc (τ := τ) (main (F := F))) ⟨m, fun _ => 0, ρ⟩ (fun r => (∀ c, Done m c r.2) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := fun w => w.elim0) (hstage := fun w => w.elim0) (hshare := fun _ w => w.elim0)
    (hdistinct := winFacts0.arr_inj)
    (O₀ := owed₀) (howed₀ := fun _ => rfl) (howedN := fun _ => rfl)
    (L := L) (lv := lv) (hL := L_of_ne) (hwaits := fun c => Pipeline.cellsWaits_intro cfgs (dats m) 0 0 c fun w => w.elim0)
    (G := G (arg m)) (G' := G' (arg m)) (u₀ := u₀)
    (hu₀ := fund (arg m))
    (hglob := glob (arg m))
    (hA := fun _ w => w.elim0) (hpf := fun _ k => k.elim0)
    (X := start (arg m)) (Y := results (arg m)) (Z := kept m)
    (hX := start_intro m ρ) (hin := phi_enter m) (hout := phi_leave m)
    (QY := fun c s => Done m c s ∧ ∀ sm : SemLoc sig, sm.isScoped .tc = false → s.sem ((c.tc : Thread nD τ), sm) = 0)
    (hY := fun c s' => read_end m c s')
    (hQ := fun _ h hs => ⟨fun c => (h c).2.2.1, sem_eq_zero hs fun c => (h c).2.2.2⟩)

end Cert.KernelIdeal.TwoPhase

end
-- ==== Proof.Value.lean ====
/-
# The value

Over the extended reals: when every device's argument is its block of the whole array, every device's result is the
reference's, the sum of the array's two blocks of rows.
-/
module

public import proofs.«01_k».proof.Proof.Launch
public import proofs.«01_k».proof.Proof.Gen.ReferenceIdeal.Run
public import Idealize.ShloMosaic.Lib.Layout
public import Idealize.ShloMosaic.Lib.Quiescent
public import Idealize.ShloMosaic.Lib.IdealHost
public import Idealize.ShloMosaic.Lib.Pointwise.Reduce
public import Idealize.ShloMosaic.Lib.Pipeline.Value

@[expose] public section

set_option synthInstance.maxSize 4096

noncomputable section

namespace Cert.KernelIdeal.TwoPhase

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Transfers
open Cert.KernelIdeal.Gen

/-- The shape of the whole array. -/
abbrev Whole : Shape := ⟨2, ![65536, 1024]⟩

/-- The place, in the whole array, of what lies at `j` in block `b`. -/
def inBlock (b : Fin 2) (j : S32768x1024.Idx) : Whole.Idx :=
  ix2 (n0 := 65536) (n1 := 1024) ⟨32768 * b.val + (j 0).val, by
    have h0 : (j 0).val < 32768 := (j 0).isLt
    have := b.isLt; omega⟩ ⟨(j 1).val, (j 1).isLt⟩

/-- What the reference computes of the array `W`. -/
abbrev refValue (W : Whole.Idx → EReal) : S32768x1024.Idx → EReal :=
  Host.reduceAdd (F := Ideal) (φ := .f32)
    (shapeCast Cert.ReferenceIdeal.S2x32768x1024 W Cert.ReferenceIdeal.Gen.facts.shapeCasts_S65536x1024_S2x32768x1024)
    (constant Cert.ReferenceIdeal.S_ .f32 0x00000000#32)
    Cert.ReferenceIdeal.Gen.facts.reducesTo_S2x32768x1024_S32768x1024_d0 Cert.ReferenceIdeal.Gen.facts.h_S_

/-- The reference's result at `j` is the sum of what lies at `j` in the two blocks. -/
theorem reference_at (W : Whole.Idx → EReal) (j : S32768x1024.Idx) :
    refValue W j = W (inBlock 0 j) + W (inBlock 1 j) := by
  unfold refValue
  rw [ValueIdx.hostReduceAdd_apply, Ideal.hostReduceAdd_r3_a0, Fin.sum_univ_two]
  have hb : ∀ b : Fin 2, ∀ h0 h1, shapeCast Cert.ReferenceIdeal.S2x32768x1024 W
      Cert.ReferenceIdeal.Gen.facts.shapeCasts_S65536x1024_S2x32768x1024
      (ix3 b ⟨(j 0).val, h0⟩ ⟨(j 1).val, h1⟩) = W (inBlock b j) := by
    intro b h0 h1
    refine shapeCast_apply W _ _ _ ?_
    rw [Shape.rowMajor_val_two, Shape.rowMajor_val_three]
    show (32768 * b.val + (j 0).val) * 1024 + (j 1).val = (b.val * 32768 + (j 0).val) * 1024 + (j 1).val
    omega
  have hz : constant (F := Ideal) Cert.ReferenceIdeal.S_ .f32 0x00000000#32
      (Shape.Idx.first Cert.ReferenceIdeal.Gen.facts.h_S_) = 0 := Ideal.ofBits_zero_f32
  rw [hz, zero_add]
  exact congrArg₂ (· + ·) (hb 0 _ _) (hb 1 _ _)

/-- Every device's argument is its block of rows of `W`: block 0 on devices 0 and 1, block 1 on devices 2 and 3. -/
def Cut (X : Dev nD → S32768x1024.Idx → EReal) (W : Whole.Idx → EReal) : Prop :=
  ∀ (c : Dev nD) (b : Fin 2), c.val / 2 = b.val → ∀ j, X c j = W (inBlock b j)

/-- The array cut along its rows over the mesh's first axis is cut that way. -/
theorem cut_of_block (X : Dev nD → S32768x1024.Idx → EReal) (W : Whole.Idx → EReal)
    (h : ∀ c : Dev nD, X c = Layout.blockN ⟨2, ![32768, 1024]⟩ ⟨2, ![65536, 1024]⟩ (Layout.meshBlock [2, 2] ![[0], []] c) W) :
    Cut X W := by
  intro c b hb j
  rw [h c, Layout.blockN_apply]
  refine congrArg W (funext fun a => Fin.ext ?_)
  rw [Layout.TilesN.idx_val]
  match a with
  | ⟨0, _⟩ =>
    have hl : ∀ d : Dev nD, Layout.meshLin [2, 2] d.val [0] = d.val / 2 := by decide
    have hm : Layout.meshLin [2, 2] c.val [0] = b.val := (hl c).trans hb
    show Layout.meshLin [2, 2] c.val [0] * 32768 + (j 0).val = 32768 * b.val + (j 0).val
    rw [hm, Nat.mul_comm]
  | ⟨1, _⟩ =>
    show Layout.meshLin [2, 2] c.val [] * 1024 + (j 1).val = (j 1).val
    simp [Layout.meshLin]

/-- A device and its neighbour across the first axis hold the two blocks: their sum is the reference's. -/
theorem total_at (X : Dev nD → S32768x1024.Idx → EReal) (W : Whole.Idx → EReal) (h : Cut X W) (c : Dev nD)
    (j : S32768x1024.Idx) : total (F := Ideal) X c j = W (inBlock 0 j) + W (inBlock 1 j) := by
  show X c j + X (xn c) j = _
  have hc : c.val < 4 := c.isLt
  by_cases hx : c.val / 2 = 0
  · rw [h c 0 hx, h (xn c) 1 (by simp [xn]; omega)]
  · rw [h c 1 (by simp; omega), h (xn c) 0 (by simp [xn]; omega), add_comm]

/-- Every device ends with the reference's result. -/
theorem fin_eq (X : Dev nD → S32768x1024.Idx → EReal) (W : Whole.Idx → EReal) (h : Cut X W) (c : Dev nD) :
    fin (F := Ideal) X c = refValue W := by
  funext j
  rw [reference_at]
  unfold fin
  split <;> exact total_at X W h _ j

end Cert.KernelIdeal.TwoPhase

end
-- ==== Proof.lean ====
/-
# The claims

The kernel and the reference end with their arguments unchanged and their counters at zero; over the extended reals the
kernel's result on every device is the reference's. The work is in the modules under Proof/: Launch has the kernel's run,
Value what it computes.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem

/-- The kernel, on the chip's floats: it ends, its argument unchanged, with every counter at zero. -/
theorem frame_kernel : Cert.quiescent_Kernel := fun m ρ _ =>
  (θ_run Cert.KernelIdeal.defs _ _).mono (fun _ h => ⟨fun c => (h.1 c).2, h.2⟩)
    (Cert.KernelIdeal.TwoPhase.run_main (F := Bits) m ρ)

/-- The kernel, on the extended reals: the same. -/
theorem frame_kernelIdeal : Cert.quiescent_KernelIdeal := fun m ρ _ =>
  (θ_run Cert.KernelIdeal.defs _ _).mono (fun _ h => ⟨fun c => (h.1 c).2, h.2⟩)
    (Cert.KernelIdeal.TwoPhase.run_main (F := Ideal) m ρ)

/-- The reference, on the extended reals: it ends, its argument unchanged; it has no counters. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- On the extended reals every device's result is the reference's, of the array whose blocks the devices hold. -/
theorem algebraic : Cert.algebraic_KernelIdeal_ReferenceIdeal := by
  intro m g m' g' _ hm
  refine ⟨Cert.KernelIdeal.TwoPhase.refValue
    (m' (((0 : Dev Cert.ReferenceIdeal.nD).tc : Thread Cert.ReferenceIdeal.nD Cert.ReferenceIdeal.τ).loc
      Cert.ReferenceIdeal.main_arg0)), ?_, ?_⟩
  · refine (θ_run Cert.KernelIdeal.defs _ _).mono (fun r h c => ⟨(h.1 c).1.trans ?_, (h.1 c).2⟩)
      (Cert.KernelIdeal.TwoPhase.run_main (F := Ideal) m g)
    exact Cert.KernelIdeal.TwoPhase.fin_eq _ _ (Cert.KernelIdeal.TwoPhase.cut_of_block _ _ hm) c
  · exact (θ_run Cert.ReferenceIdeal.defs _ _).mono (fun r h => h 0)
      (Cert.ReferenceIdeal.Value.run (F := Ideal) m' g')

/-- The claims: the three frames, that the idealized kernel keeps the kernel's text, and the value. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
